-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S256x256 : Shape := ⟨2, ![256, 256]⟩
abbrev S32x256 : Shape := ⟨2, ![32, 256]⟩
abbrev S7x32x256 : Shape := ⟨3, ![7, 32, 256]⟩
abbrev S7 : Shape := ⟨1, ![7]⟩
abbrev S_ : Shape := ⟨0, ![]⟩
abbrev S1x128x256 : Shape := ⟨3, ![1, 128, 256]⟩
abbrev S128x256 : Shape := ⟨2, ![128, 256]⟩
abbrev S1 : Shape := ⟨1, ![1]⟩
abbrev S1x32x256 : Shape := ⟨3, ![1, 32, 256]⟩

abbrev nBuf : Space → Nat
  | .hbm => 5
  | .vmem => 9
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x16, .bf16⟩
  | .local _ .vmem, ⟨2, _⟩ => ⟨S256x1, .i32⟩
  | .local _ .vmem, ⟨3, _⟩ => ⟨S2x128x256, .bf16⟩
  | .local _ .vmem, ⟨4, _⟩ => ⟨S256x256, .f32⟩
  | .local _ .vmem, ⟨5, _⟩ => ⟨S256x256, .bf16⟩
  | .local _ .vmem, ⟨6, _⟩ => ⟨S32x256, .bf16⟩
  | .local _ .vmem, ⟨7, _⟩ => ⟨S7x32x256, .bf16⟩
  | .local _ .vmem, ⟨8, _⟩ => ⟨S7x32x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) (c1_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : BitVec 32 := Scalar.xori v2 c1_i32_40
  let c32_i32 : BitVec 32 := 32#32
  let v61 : BitVec 32 := Scalar.muli v60 c32_i32
  let c0_i32_48 : BitVec 32 := 0#32
  ![v61.toNat, 0]
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v60 : BitVec 32 := Scalar.xori v2 c1_i32_40
  let c1_i32_44 : BitVec 32 := 1#32
  let v62 : BitVec 32 := Scalar.muli v60 c1_i32_44
  let v63 : BitVec 32 := Scalar.addi c0_i32_45 v62
  v63.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_49 : BitVec 32 := 2#32
  let v71 : BitVec 32 := Scalar.xori v2 c2_i32_49
  let c1_i32_54 : BitVec 32 := 1#32
  let v73 : BitVec 32 := Scalar.muli v71 c1_i32_54
  let v74 : BitVec 32 := Scalar.addi c0_i32_55 v73
  v74.toNat
def k0_dev10 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v82 : BitVec 32 := Scalar.xori v2 c3_i32_59
  let c1_i32_64 : BitVec 32 := 1#32
  let v84 : BitVec 32 := Scalar.muli v82 c1_i32_64
  let v85 : BitVec 32 := Scalar.addi c0_i32_65 v84
  v85.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_69 : BitVec 32 := 4#32
  let v93 : BitVec 32 := Scalar.xori v2 c4_i32_69
  let c1_i32_74 : BitVec 32 := 1#32
  let v95 : BitVec 32 := Scalar.muli v93 c1_i32_74
  let v96 : BitVec 32 := Scalar.addi c0_i32_75 v95
  v96.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_79 : BitVec 32 := 5#32
  let v104 : BitVec 32 := Scalar.xori v2 c5_i32_79
  let c1_i32_84 : BitVec 32 := 1#32
  let v106 : BitVec 32 := Scalar.muli v104 c1_i32_84
  let v107 : BitVec 32 := Scalar.addi c0_i32_85 v106
  v107.toNat
def k0_dev13 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_89 : BitVec 32 := 6#32
  let v115 : BitVec 32 := Scalar.xori v2 c6_i32_89
  let c1_i32_94 : BitVec 32 := 1#32
  let v117 : BitVec 32 := Scalar.muli v115 c1_i32_94
  let v118 : BitVec 32 := Scalar.addi c0_i32_95 v117
  v118.toNat
def k0_dev14 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_99 : BitVec 32 := 7#32
  let v126 : BitVec 32 := Scalar.xori v2 c7_i32_99
  let c1_i32_104 : BitVec 32 := 1#32
  let v128 : BitVec 32 := Scalar.muli v126 c1_i32_104
  let v129 : BitVec 32 := Scalar.addi c0_i32_105 v128
  v129.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_109 : BitVec 32 := 32#32
  let v137 : BitVec 32 := Scalar.muli v2 c32_i32_109
  let v138 : Index := Scalar.indexCast v137
  let c0_110 : Index := 0#32
  ![v138.toNat, 0]
def k0_dev15 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_236 : BitVec 32 := 1#32
  let v260 : BitVec 32 := Scalar.xori v2 c1_i32_236
  let c1_i32_240 : BitVec 32 := 1#32
  let v261 : BitVec 32 := Scalar.muli v260 c1_i32_240
  let v262 : BitVec 32 := Scalar.addi c0_i32_241 v261
  v262.toNat
def k0_dev16 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_244 : BitVec 32 := 2#32
  let v269 : BitVec 32 := Scalar.xori v2 c2_i32_244
  let c1_i32_248 : BitVec 32 := 1#32
  let v270 : BitVec 32 := Scalar.muli v269 c1_i32_248
  let v271 : BitVec 32 := Scalar.addi c0_i32_249 v270
  v271.toNat
def k0_dev17 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_252 : BitVec 32 := 3#32
  let v278 : BitVec 32 := Scalar.xori v2 c3_i32_252
  let c1_i32_256 : BitVec 32 := 1#32
  let v279 : BitVec 32 := Scalar.muli v278 c1_i32_256
  let v280 : BitVec 32 := Scalar.addi c0_i32_257 v279
  v280.toNat
def k0_dev18 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_260 : BitVec 32 := 4#32
  let v287 : BitVec 32 := Scalar.xori v2 c4_i32_260
  let c1_i32_264 : BitVec 32 := 1#32
  let v288 : BitVec 32 := Scalar.muli v287 c1_i32_264
  let v289 : BitVec 32 := Scalar.addi c0_i32_265 v288
  v289.toNat
def k0_dev19 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_268 : BitVec 32 := 5#32
  let v296 : BitVec 32 := Scalar.xori v2 c5_i32_268
  let c1_i32_272 : BitVec 32 := 1#32
  let v297 : BitVec 32 := Scalar.muli v296 c1_i32_272
  let v298 : BitVec 32 := Scalar.addi c0_i32_273 v297
  v298.toNat
def k0_dev20 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_276 : BitVec 32 := 6#32
  let v305 : BitVec 32 := Scalar.xori v2 c6_i32_276
  let c1_i32_280 : BitVec 32 := 1#32
  let v306 : BitVec 32 := Scalar.muli v305 c1_i32_280
  let v307 : BitVec 32 := Scalar.addi c0_i32_281 v306
  v307.toNat
def k0_dev21 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_284 : BitVec 32 := 7#32
  let v314 : BitVec 32 := Scalar.xori v2 c7_i32_284
  let c1_i32_288 : BitVec 32 := 1#32
  let v315 : BitVec 32 := Scalar.muli v314 c1_i32_288
  let v316 : BitVec 32 := Scalar.addi c0_i32_289 v315
  v316.toNat
def k0_off3 (d0 : Dev nD) (c1_i32_308 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v336 : BitVec 32 := Scalar.xori v2 c1_i32_308
  let c32_i32_309 : BitVec 32 := 32#32
  let v337 : BitVec 32 := Scalar.muli v336 c32_i32_309
  let v338 : Index := Scalar.indexCast v337
  let c0_310 : Index := 0#32
  ![v338.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S256 : Shape := ⟨1, ![256]⟩
abbrev S1 : Shape := ⟨1, ![1]⟩
abbrev S_ : Shape := ⟨0, ![]⟩
abbrev S1x1 : Shape := ⟨2, ![1, 1]⟩
abbrev S256x128x256 : Shape := ⟨3, ![256, 128, 256]⟩
abbrev S256x256 : Shape := ⟨2, ![256, 256]⟩

abbrev nBuf : Space → Nat
  | .hbm => 24
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S16x128x256, .bf16⟩
  | .hbm, ⟨4, _⟩ => ⟨S256, .i32⟩
  | .hbm, ⟨5, _⟩ => ⟨S256x1, .i32⟩
  | .hbm, ⟨6, _⟩ => ⟨S1, .i32⟩
  | .hbm, ⟨7, _⟩ => ⟨S_, .i32⟩
  | .hbm, ⟨8, _⟩ => ⟨S256x1, .i32⟩
  | .hbm, ⟨9, _⟩ => ⟨S256x1, .i1⟩
  | .hbm, ⟨10, _⟩ => ⟨S1x1, .i32⟩
  | .hbm, ⟨11, _⟩ => ⟨S256x1, .i32⟩
  | .hbm, ⟨12, _⟩ => ⟨S256x1, .i1⟩
  | .hbm, ⟨13, _⟩ => ⟨S256x1, .i1⟩
  | .hbm, ⟨14, _⟩ => ⟨S_, .i1⟩
  | .hbm, ⟨15, _⟩ => ⟨S256, .i1⟩
  | .hbm, ⟨16, _⟩ => ⟨S256x128x256, .bf16⟩
  | .hbm, ⟨17, _⟩ => ⟨S256x128x256, .i1⟩
  | .hbm, ⟨18, _⟩ => ⟨S_, .bf16⟩
  | .hbm, ⟨19, _⟩ => ⟨S256x128x256, .bf16⟩
  | .hbm, ⟨20, _⟩ => ⟨S256x128x256, .bf16⟩
  | .hbm, ⟨21, _⟩ => ⟨S256x128, .f32⟩
  | .hbm, ⟨22, _⟩ => ⟨S256x128x256, .f32⟩
  | .hbm, ⟨23, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Proto.lean ====
/-
# The protocol of the exchange: cells, contents, duties, debts and levels

Eight devices. Device `c` and its mate `mate r c` (the device whose number is `c`'s with the bits of `r + 1` flipped,
`r = 0 … 6`) talk to each other over lane `r` only, and every pair of distinct devices is joined by exactly one lane.

* the barrier semaphore of `c`: waited by `c` for 7 units; unit `r` is signalled by `mate r c`, which hands over slot `r`
  of its two landing buffers (that of the reduce-scatter and that of the all-gather), at contents unknown;
* the reduce-scatter send semaphore `r` of `c`: waited by `c`; `c`'s own copy to `mate r c` gives back the block of `c`'s
  send buffer it read;
* the reduce-scatter receive semaphore `r` of `c`: waited by `c`; the copy from `mate r c` hands over slot `r` of the first
  landing buffer, holding the rows of `c` of that device's partial sums;
* the all-gather send semaphore `r` of `c`: gives back the share of `c`'s second send buffer that the copy read;
* the all-gather receive semaphore `r` of `c`: hands over slot `r` of the second landing buffer, holding the reduced rows
  of `mate r c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Mates -/

/-- The device at the other end of lane `r`. -/
def mate (r : Fin 7) (c : Dev nD) : Dev nD := ⟨(c.val ^^^ (r.val + 1)) % 8, Nat.mod_lt _ (by decide)⟩

theorem mate_mate (r : Fin 7) (c : Dev nD) : mate r (mate r c) = c := by revert r c; decide
theorem mate_ne (r : Fin 7) (c : Dev nD) : mate r c ≠ c := by revert r c; decide
theorem mate_inj_lane (r r' : Fin 7) (c : Dev nD) (h : mate r c = mate r' c) : r = r' := by revert r r' c; decide
theorem univ_mates (c : Dev nD) : (Finset.univ : Finset (Dev nD)) = insert c (Finset.univ.image fun r => mate r c) := by
  revert c; decide

/-- Lane by lane, the pairs (device, lane) matched with the pair seen from the other end. -/
def across : Dev nD × Fin 7 ≃ Dev nD × Fin 7 :=
  ⟨fun x => (mate x.2 x.1, x.2), fun x => (mate x.2 x.1, x.2), fun x => Prod.ext (mate_mate _ _) rfl, fun x => Prod.ext (mate_mate _ _) rfl⟩

/-! ## Buffers -/

abbrev xM : Memref sig .tc .vmem S256x128 .bf16 := Memref.whole cc0_stg0_0
abbrev iM : Memref sig .tc .vmem S256x1 .i32 := Memref.whole cc0_stg2_0
abbrev wM : Memref sig .tc .vmem S2x128x256 .bf16 := Memref.whole cc0_stg3_0
abbrev oM : Memref sig .tc .vmem S256x256 .f32 := Memref.whole cc0_stg4_0
abbrev sM : Memref sig .tc .vmem S256x256 .bf16 := Memref.whole cc0_scratch0
abbrev gM : Memref sig .tc .vmem S32x256 .bf16 := Memref.whole cc0_scratch1
abbrev rM : Memref sig .tc .vmem S7x32x256 .bf16 := Memref.whole cc0_scratch2
abbrev aM : Memref sig .tc .vmem S7x32x256 .bf16 := Memref.whole cc0_scratch3

theorem inb_rows : ∀ (d : Dev nD) (a : Fin 2), (![32 * d.val, 0] : Fin 2 → ℕ) a + S32x256.size a ≤ S256x256.size a := by decide
theorem inb_lane : ∀ (r : Fin 7) (a : Fin 3), (![r.val, 0, 0] : Fin 3 → ℕ) a + S1x32x256.size a ≤ S7x32x256.size a := by decide
theorem inb_sem : ∀ (r : Fin 7) (a : Fin 1), (![r.val] : Fin 1 → ℕ) a + S1.size a ≤ S7.size a := by decide

/-- The rectangle of device `d`'s 32 rows of a 256 x 256 buffer, and of lane `r`'s slot of a landing buffer. -/
abbrev rows (d : Dev nD) : Rect S256x256 := Rect.unit (s := S256x256) ![32 * d.val, 0] S32x256.size (inb_rows d)
abbrev lane (r : Fin 7) : Rect S7x32x256 := Rect.unit (s := S7x32x256) ![r.val, 0, 0] S1x32x256.size (inb_lane r)

/-- Device `d`'s rows of the send buffer. -/
abbrev blkM (d : Dev nD) : Memref sig .tc .vmem S32x256 .bf16 := sM.slice (rows d) (fun _ => rfl)
/-- Lane `r`'s slot of the landing buffers of the reduce-scatter and of the all-gather. -/
abbrev rsSlot (r : Fin 7) : Memref sig .tc .vmem S32x256 .bf16 := (rM.slice (lane r) (fun _ => rfl)).squeeze S32x256 squeezes_S1x32x256_S32x256
abbrev agSlot (r : Fin 7) : Memref sig .tc .vmem S32x256 .bf16 := (aM.slice (lane r) (fun _ => rfl)).squeeze S32x256 squeezes_S1x32x256_S32x256

theorem slice_off (off off' : Fin 2 → ℕ) (h : off = off') (p : ∀ a, off a + S32x256.size a ≤ S256x256.size a)
    (p' : ∀ a, off' a + S32x256.size a ≤ S256x256.size a) :
    (sM.slice (Rect.unit (s := S256x256) off S32x256.size p) (fun _ => rfl) : Memref sig .tc .vmem S32x256 .bf16)
      = sM.slice (Rect.unit (s := S256x256) off' S32x256.size p') (fun _ => rfl) := by subst h; rfl

theorem off1_eq : ∀ (c : Dev nD) (r : Fin 7), k0_off1 c (BitVec.ofNat 32 (1 + r.val)) = ![32 * (mate r c).val, 0] := by decide +kernel
theorem off3_eq : ∀ (c : Dev nD) (r : Fin 7), k0_off3 c (BitVec.ofNat 32 (1 + r.val)) = ![32 * (mate r c).val, 0] := by decide +kernel

/-- The block the kernel sends over lane `r` is the rows of the device at the other end. -/
theorem sent_eq (c : Dev nD) (r : Fin 7) :
    (sM.slice (Rect.unit (s := S256x256) (k0_off1 c (BitVec.ofNat 32 (1 + r.val))) S32x256.size (k0_off1_inb c r)) (fun _ => rfl) : Memref sig .tc .vmem S32x256 .bf16)
      = blkM (mate r c) := slice_off _ _ (off1_eq c r) _ _

/-! ### The blocks and slots partition their buffers -/

theorem rows_disjoint (d d' : Dev nD) (h : d ≠ d') : Disjoint (rows d).set (rows d').set :=
  Ring.lead_disjoint (s := S256x256) (0 : Fin 2) 32 (fun d : Fin 8 => (![32 * d.val, 0] : Fin 2 → ℕ)) S32x256.size inb_rows (fun _ => rfl) rfl d d' h
theorem rows_cover : Finset.univ.biUnion (fun d : Dev nD => (rows d).set) = Finset.univ :=
  Ring.lead_cover (s := S256x256) (0 : Fin 2) 32 (fun d : Fin 8 => (![32 * d.val, 0] : Fin 2 → ℕ)) S32x256.size inb_rows (fun _ => rfl)
    (by decide) rfl (by decide) rfl
theorem lane_disjoint (r r' : Fin 7) (h : r ≠ r') : Disjoint (lane r).set (lane r').set :=
  Ring.lead_disjoint (s := S7x32x256) (0 : Fin 3) 1 (fun r : Fin 7 => (![r.val, 0, 0] : Fin 3 → ℕ)) S1x32x256.size inb_lane (fun r => by simp) rfl r r' h
theorem lane_cover : Finset.univ.biUnion (fun r : Fin 7 => (lane r).set) = Finset.univ :=
  Ring.lead_cover (s := S7x32x256) (0 : Fin 3) 1 (fun r : Fin 7 => (![r.val, 0, 0] : Fin 3 → ℕ)) S1x32x256.size inb_lane (fun r => by simp)
    (by decide) rfl (by decide) rfl

theorem blk_set (d : Dev nD) : (blkM d).view.set = (rows d).set := View.set_slice_whole _ _
theorem rsSlot_set (r : Fin 7) : (rsSlot r).view.set = (lane r).set := (View.set_reshape _ _).trans (View.set_slice_whole _ _)
theorem agSlot_set (r : Fin 7) : (agSlot r).view.set = (lane r).set := (View.set_reshape _ _).trans (View.set_slice_whole _ _)

/-! ## Semaphores and cells -/

/-- The barrier semaphore (not scoped to the launch). -/
abbrev barS : Sem sig := (SemArray.scalar (sig.barrier 0 rfl) : Sems sig S_).sem

/-- The kernel's own semaphores: family 0 reduce-scatter send, 1 reduce-scatter receive, 2 all-gather send,
    3 all-gather receive, one of each per lane. -/
def dsem (x : Fin 4 × Fin 7) : DmaSem sig := ⟨5 + 7 * x.1.val + x.2.val, by
  have h1 := x.1.isLt; have h2 := x.2.isLt; show _ < 33; omega⟩

/-- Which of the kernel's own semaphores a number is. -/
def dcode (q : DmaSem sig) : Option (Fin 4 × Fin 7) :=
  if h : 5 ≤ q.val then some (⟨(q.val - 5) / 7, by have : q.val < 33 := q.isLt; omega⟩, ⟨(q.val - 5) % 7, Nat.mod_lt _ (by decide)⟩) else none

theorem dcode_dsem : ∀ x, dcode (dsem x) = some x := by decide
theorem dsem_inj : Function.Injective dsem := fun x y h => by
  have := congrArg dcode h; rw [dcode_dsem, dcode_dsem] at this; exact Option.some.inj this
theorem dcode_some : ∀ q x, dcode q = some x → q = dsem x := by decide

/-- The printed semaphore of lane `r` of each family. -/
abbrev laneSem (A : DmaSems sig S7) (r : Fin 7) : DmaSem sig :=
  ((A.slice (Rect.unit (s := S7) ![r.val] S1.size (inb_sem r))).squeeze S_ squeezes_S1_S_).sem
theorem laneSem0 : ∀ r, laneSem cc0_scratch4 r = dsem (0, r) := by decide
theorem laneSem1 : ∀ r, laneSem cc0_scratch5 r = dsem (1, r) := by decide
theorem laneSem2 : ∀ r, laneSem cc0_scratch6 r = dsem (2, r) := by decide
theorem laneSem3 : ∀ r, laneSem cc0_scratch7 r = dsem (3, r) := by decide

abbrev barCell (c : Dev nD) : GSem nD τ sig := ((c : Thread nD τ), .reg barS)
abbrev dcell (c : Dev nD) (x : Fin 4 × Fin 7) : GSem nD τ sig := ((c : Thread nD τ), .dma (dsem x))

/-- The kernel's own (scoped) semaphores; -/
abbrev osem (x : Fin 4 × Fin 7) : SemLoc sig := .dma (dsem x)
/-- all of the exchange's semaphores: the barrier and those. -/
abbrev CI : Type := Unit ⊕ (Fin 4 × Fin 7)
abbrev csem : CI → SemLoc sig := fun | .inl _ => .reg barS | .inr x => .dma (dsem x)
abbrev kcell (ck : Dev nD × CI) : GSem nD τ sig := ((ck.1 : Thread nD τ), csem ck.2)

/-- What one copy of a 32 x 256 block adds to a semaphore. -/
def N : ℕ := (rsSlot 0).view.dmaCredit
theorem N_pos : 0 < N := View.dmaCredit_pos _ (by decide)
theorem credit_rs (r : Fin 7) : (rsSlot r).view.dmaCredit = N := rfl
theorem credit_ag (r : Fin 7) : (agSlot r).view.dmaCredit = N := rfl
theorem credit_blk (d : Dev nD) : (blkM d).view.dmaCredit = N := rfl
theorem credit_g : (gM).view.dmaCredit = N := rfl

/-! ## Contents -/

/-- What the pipeline stages on device `c`: the tokens, the expert numbers, the device's two experts' matrices. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def wstg (c : Dev nD) : (cc0_stg3_0 : Ref sig .tc).ty.Contents (Elt F) :=
  (win0_3.blk (0 : Fin 1)).view.read (Elt F) ((s₀ m ρ).mem ((c : Thread nD τ).loc main_arg3))

/-- The device's number as the kernel computes it. -/
def myWord (c : Dev nD) : BitVec 32 := Scalar.remsi (Scalar.divsi (Dev.word c) 1#32) 8#32

/-- One expert's matrix out of the staged pair. -/
def expert0 (f : (cc0_stg3_0 : Ref sig .tc).ty.Contents (Elt F)) : Vec F S1x128x256 .bf16 :=
  wM.view.readAt (Elt F) (Rect.unit (s := S2x128x256) ![0, 0, 0] S1x128x256.size inb_S2x128x256_S1x128x256_0_0_0).toLoadRect f
def expert1 (f : (cc0_stg3_0 : Ref sig .tc).ty.Contents (Elt F)) : Vec F S1x128x256 .bf16 :=
  wM.view.readAt (Elt F) (Rect.unit (s := S2x128x256) ![1, 0, 0] S1x128x256.size inb_S2x128x256_S1x128x256_1_0_0).toLoadRect f

/-- Device `c`'s partial sums: what its two experts contribute to every row. -/
def partialC (c : Dev nD) : (cc0_scratch0 : Ref sig .tc).ty.Contents (Elt F) :=
  k0_pay1 (myWord c) (istg m ρ c) (xstg m ρ c) (expert0 (wstg m ρ c)) (expert1 (wstg m ρ c))

/-- Device `d`'s rows of device `e`'s partial sums. -/
def rsVal (e d : Dev nD) : FVec F S32x256 .bf16 := (blkM d).view.read (Elt F) (partialC m ρ e)

/-- One landed block added to the sum so far. -/
def addBlk (acc : FVec F S32x256 .f32) (v : FVec F S32x256 .bf16) : FVec F S32x256 .f32 := addf acc (extf .f32 v bitsLt_bf16_f32)

/-- Device `c`'s rows summed over all devices: its own block first, then lane by lane. -/
def redC (c : Dev nD) : FVec F S32x256 .f32 :=
  (List.finRange 7).foldl (fun acc r => addBlk acc (rsVal m ρ (mate r c) c)) (extf .f32 (rsVal m ρ c c) bitsLt_bf16_f32)

/-- What device `c` sends in the all-gather. -/
def agVal (c : Dev nD) : FVec F S32x256 .bf16 := k0_pay7 (redC m ρ c)

/-- What device `c` writes to the rows of device `d` of its result. -/
def blkVal (c d : Dev nD) : FVec F S32x256 .f32 := if d = c then redC m ρ c else extf .f32 (agVal m ρ d) bitsLt_bf16_f32

/-- The device whose rows a row is among. -/
def rowDev (i : S256x256.Idx) : Dev nD := ⟨(i 0).val / 32, by have : (i 0).val < 256 := (i 0).isLt; show _ < 8; omega⟩

end Cert.KernelIdeal.Moe

end
-- ==== Proof.Sched.lean ====
/-
# The schedule of the exchange: duties, amounts, payloads; what each device owes, and the levels of the waits
-/
module

public import proofs.«01_k».proof.Proof.Proto

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is handed over -/

/-- Lane `r`'s slot of the two landing buffers of device `c`, at contents `f`. -/
def rsPts (r : Fin 7) (c : Dev nD) (f : Buf (Elt F) ((rsSlot r).view.loc (c : Thread nD τ))) : sProp 𝕄 :=
  (rsSlot r).view.loc (c : Thread nD τ) ↦[(rsSlot r).view.set]{fullShare} f
def agPts (r : Fin 7) (c : Dev nD) (f : Buf (Elt F) ((agSlot r).view.loc (c : Thread nD τ))) : sProp 𝕄 :=
  (agSlot r).view.loc (c : Thread nD τ) ↦[(agSlot r).view.set]{fullShare} f
/-- Device `d`'s rows of device `c`'s send buffer, holding its partial sums. -/
def blkPts (c d : Dev nD) : sProp 𝕄 :=
  (blkM d).view.loc (c : Thread nD τ) ↦[(blkM d).view.set]{fullShare} partialC m ρ c
/-- The `r`-th share of device `c`'s second send buffer, holding its reduced rows. -/
def gPts (r : Fin 7) (c : Dev nD) : sProp 𝕄 :=
  (gM).view.loc (c : Thread nD τ) ↦[(gM).view.set]{Transfers.shareTok fullShare 7 r} agVal m ρ c

/-- A signal over lane `r` hands `c` its mate's two slots. -/
def barPay (r : Fin 7) (c : Dev nD) : sProp 𝕄 := iprop((∃ f, rsPts r (mate r c) f) ∗ (∃ f, agPts r (mate r c) f))
/-- A landing of the reduce-scatter: the mate's partial sums of `c`'s rows. -/
def rsPay (r : Fin 7) (c : Dev nD) : sProp 𝕄 := iprop(∃ f, ⌜(rsSlot r).view.read (Elt F) f = rsVal m ρ (mate r c) c⌝ ∗ rsPts r c f)
/-- A landing of the all-gather: the mate's reduced rows. -/
def agPay (r : Fin 7) (c : Dev nD) : sProp 𝕄 := iprop(∃ f, ⌜(agSlot r).view.read (Elt F) f = agVal m ρ (mate r c)⌝ ∗ agPts r c f)

/-- The payload of the kernel's own semaphore `x` of device `c`. -/
def dpay (c : Dev nD) (x : Fin 4 × Fin 7) : sProp 𝕄 :=
  match x.1 with
  | 0 => blkPts m ρ c (mate x.2 c)
  | 1 => rsPay m ρ x.2 c
  | 2 => gPts m ρ x.2 c
  | 3 => agPay m ρ x.2 c

instance rsPts_storable (r c f) : BI.Storable (upEmb : UEmb _ 𝕄) (rsPts (F := F) r c f) := by unfold rsPts; infer_instance
instance agPts_storable (r c f) : BI.Storable (upEmb : UEmb _ 𝕄) (agPts (F := F) r c f) := by unfold agPts; infer_instance
instance blkPts_storable (c d) : BI.Storable (upEmb : UEmb _ 𝕄) (blkPts (F := F) m ρ c d) := by unfold blkPts; infer_instance
instance gPts_storable (r c) : BI.Storable (upEmb : UEmb _ 𝕄) (gPts (F := F) m ρ r c) := by unfold gPts; infer_instance
instance barPay_storable (r c) : BI.Storable (upEmb : UEmb _ 𝕄) (barPay (F := F) r c) := by unfold barPay; infer_instance
instance dpay_storable (c x) : BI.Storable (upEmb : UEmb _ 𝕄) (dpay (F := F) m ρ c x) := by
  obtain ⟨a, r⟩ := x
  unfold dpay rsPay agPay
  fin_cases a <;> dsimp only <;> infer_instance

/-! ## The schedule -/

/-- One round. A barrier cell has a unit's duty per lane, a cell of the kernel's own semaphores one duty (named 0) of a
    block's credit; no other cell has any. -/
def moeRd : Rounds.Schedule (GSem nD τ sig) (Fin 7) 𝕄 where
  duties g r := if r = 0 ∧ g.1.2 = .tc then (match g.2 with
    | .reg _ => Finset.univ
    | .dma q => if (dcode q).isSome then {0} else ∅) else ∅
  unitless _ := False
  amount g _ _ := match g.2 with | .reg _ => 1 | .dma _ => N
  payload g _ d := match g.2 with
    | .reg _ => barPay d g.1.1
    | .dma q => match dcode q with | some x => dpay m ρ g.1.1 x | none => iprop(emp)
  amount_pos g _ _ _ := by
    rcases g with ⟨_, sm⟩
    cases sm
    · exact Nat.one_pos
    · exact N_pos

instance moeRd_payload_storable (g : GSem nD τ sig) (r : ℕ) (d : Fin 7) :
    BI.Storable (upEmb : UEmb _ 𝕄) ((moeRd (F := F) m ρ).payload g r d) := by
  rcases g with ⟨t, sm⟩
  cases sm with
  | reg q => exact barPay_storable d t.1
  | dma q =>
    show BI.Storable upEmb (match dcode q with | some x => dpay m ρ t.1 x | none => iprop(emp))
    cases dcode q <;> dsimp only <;> infer_instance

section Tables
variable (c : Dev nD) (x : Fin 4 × Fin 7)

theorem duties_bar : (moeRd (F := F) m ρ).duties (barCell c) 0 = Finset.univ := by dsimp only [moeRd]; exact if_pos ⟨rfl, rfl⟩
theorem duties_own : (moeRd (F := F) m ρ).duties (dcell c x) 0 = {0} := by
  dsimp only [moeRd]; rw [if_pos ⟨rfl, rfl⟩, dcode_dsem]; rfl
theorem duties_later (g : GSem nD τ sig) : ∀ r, 1 ≤ r → (moeRd (F := F) m ρ).duties g r = ∅ :=
  fun r hr => by dsimp only [moeRd]; exact if_neg fun h => by omega
theorem amount_bar (d : Fin 7) : (moeRd (F := F) m ρ).amount (barCell c) 0 d = 1 := rfl
theorem amount_own (d : Fin 7) : (moeRd (F := F) m ρ).amount (dcell c x) 0 d = N := rfl
theorem expect_bar : (moeRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_own : (moeRd (F := F) m ρ).expect (dcell c x) 0 = N := by
  unfold Schedule.expect Schedule.amountOf; rw [duties_own, Finset.sum_singleton, amount_own]
theorem payload_bar (d : Fin 7) : (moeRd (F := F) m ρ).payload (barCell c) 0 d = barPay d c := rfl
theorem payload_own (d : Fin 7) : (moeRd (F := F) m ρ).payload (dcell c x) 0 d = dpay m ρ c x := by
  dsimp only [moeRd]; rw [dcode_dsem]
theorem rest_bar : bigSep ((moeRd (F := F) m ρ).duties (barCell c) 0 \ ∅) (fun d => (moeRd (F := F) m ρ).payload (barCell c) 0 d)
    = bigSep Finset.univ fun r : Fin 7 => barPay r c := by
  rw [Finset.sdiff_empty, duties_bar]; rfl
theorem rest_own : bigSep ((moeRd (F := F) m ρ).duties (dcell c x) 0 \ ∅) (fun d => (moeRd (F := F) m ρ).payload (dcell c x) 0 d) = dpay m ρ c x := by
  rw [Finset.sdiff_empty, duties_own, bigSep_singleton, payload_own]

end Tables

/-! ## Lanes still to do and lanes done -/

/-- The lanes from `n` on; the lanes before `n`. -/
def geS (n : ℕ) : Finset (Fin 7) := Finset.univ.filter fun r => n ≤ r.val
def ltS (n : ℕ) : Finset (Fin 7) := Finset.univ.filter fun r => r.val < n

theorem geS_zero : geS 0 = Finset.univ := by decide
theorem geS_seven : geS 7 = ∅ := by decide
theorem ltS_zero : ltS 0 = ∅ := by decide
theorem ltS_seven : ltS 7 = Finset.univ := by decide
theorem geS_peel (r : Fin 7) : geS r.val = insert r (geS (r.val + 1)) := by revert r; decide
theorem not_mem_geS (r : Fin 7) : r ∉ geS (r.val + 1) := by revert r; decide
theorem ltS_push (r : Fin 7) : ltS (r.val + 1) = insert r (ltS r.val) := by revert r; decide
theorem not_mem_ltS (r : Fin 7) : r ∉ ltS r.val := by revert r; decide

theorem bigSep_peel (r : Fin 7) (Φ : Fin 7 → sProp 𝕄) : bigSep (geS r.val) Φ = iprop(Φ r ∗ bigSep (geS (r.val + 1)) Φ) := by
  rw [geS_peel, bigSep_insert (not_mem_geS r)]; rfl
theorem bigSep_push (r : Fin 7) (Φ : Fin 7 → sProp 𝕄) : bigSep (ltS (r.val + 1)) Φ = iprop(Φ r ∗ bigSep (ltS r.val) Φ) := by
  rw [ltS_push, bigSep_insert (not_mem_ltS r)]; rfl

/-! ## What each device owes -/

/-- Device `c`'s debt once `b` signals, `s` copies of the reduce-scatter and `a` copies of the all-gather are issued. -/
def debt (c : Dev nD) (b s a : ℕ) : CellTallies nD τ sig Unit :=
  (∑ r ∈ geS a, tallyAt (dcell (mate r c) (3, r)) () N) + (∑ r ∈ geS s, tallyAt (dcell (mate r c) (1, r)) () N)
    + (∑ r ∈ geS b, tallyAt (barCell (mate r c)) () 1)

theorem debt_bar (c : Dev nD) (r : Fin 7) (s a : ℕ) :
    debt c r.val s a = debt c (r.val + 1) s a + tallyAt (barCell (mate r c)) () 1 := by
  unfold debt; rw [geS_peel r, Finset.sum_insert (not_mem_geS r), add_comm (tallyAt _ _ _), ← add_assoc]
theorem debt_rs (c : Dev nD) (r : Fin 7) (b a : ℕ) :
    debt c b r.val a = debt c b (r.val + 1) a + tallyAt (dcell (mate r c) (1, r)) () N := by
  unfold debt; rw [geS_peel r, Finset.sum_insert (not_mem_geS r), add_comm (tallyAt _ _ _), ← add_assoc, add_right_comm]
theorem debt_ag (c : Dev nD) (r : Fin 7) (b s : ℕ) :
    debt c b s r.val = debt c b s (r.val + 1) + tallyAt (dcell (mate r c) (3, r)) () N := by
  unfold debt; rw [geS_peel r, Finset.sum_insert (not_mem_geS r), add_comm (tallyAt _ _ _), add_right_comm _ (tallyAt _ _ _), add_right_comm _ (tallyAt _ _ _)]
theorem debt_none (c : Dev nD) : debt c 7 7 7 = 0 := by
  unfold debt; rw [geS_seven, Finset.sum_empty, Finset.sum_empty, Finset.sum_empty, add_zero, add_zero]

def O₀ (c : Dev nD) : CellTallies nD τ sig Unit := debt c 0 0 0

def L (g : GSem nD τ sig) : Finset Unit := if g.1.2 = .tc then {()} else ∅
/-- Barrier cells at 1, reduce-scatter receive cells at 2, all-gather receive cells at 3, everything else at 0. -/
def lv (g : GSem nD τ sig) (_ : Unit) : ℕ := match g.2 with
  | .reg _ => 1
  | .dma q => match dcode q with | some (1, _) => 2 | some (3, _) => 3 | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {S : Finset (Fin 7)} {f : Fin 7 → GSem nD τ sig} {n : ℕ} {g : GSem nD τ sig} {u : Unit}
    (h : 0 < (∑ r ∈ S, (tallyAt (f r) () n : CellTallies nD τ sig Unit)) g u) : ∃ r ∈ S, g = f r := by
  rw [Finset.sum_apply, Finsupp.finset_sum_apply] at h
  obtain ⟨r, hr, hp⟩ := Finset.exists_ne_zero_of_sum_ne_zero (Nat.pos_iff_ne_zero.mp h)
  refine ⟨r, hr, ?_⟩
  by_contra hn
  rw [tallyAt_apply, if_neg (fun h' => hn h'.1)] at hp
  exact hp rfl

theorem debt_pos {c : Dev nD} {b s a : ℕ} {g : GSem nD τ sig} {u : Unit} (h : 0 < debt c b s a g u) :
    (∃ r ∈ geS b, g = barCell (mate r c)) ∨ (∃ r ∈ geS s, g = dcell (mate r c) (1, r)) ∨ (∃ r ∈ geS a, g = dcell (mate r c) (3, r)) := by
  unfold debt at h
  rw [Pi.add_apply, Finsupp.add_apply, Pi.add_apply, Finsupp.add_apply] at h
  rcases Nat.add_pos_iff_pos_or_pos.mp h with h | h
  · rcases Nat.add_pos_iff_pos_or_pos.mp h with h | h
    · exact Or.inr (Or.inr (sum_tally_pos (f := fun r => dcell (mate r c) (3, r)) h))
    · exact Or.inr (Or.inl (sum_tally_pos (f := fun r => dcell (mate r c) (1, r)) h))
  · exact Or.inl (sum_tally_pos (f := fun r => barCell (mate r c)) h)

theorem lv_bar (c : Dev nD) (u : Unit) : lv (barCell c) u = 1 := rfl
theorem lv_rs (c : Dev nD) (r : Fin 7) (u : Unit) : lv (dcell c (1, r)) u = 2 := by dsimp only [lv]; rw [dcode_dsem]; rfl
theorem lv_ag (c : Dev nD) (r : Fin 7) (u : Unit) : lv (dcell c (3, r)) u = 3 := by dsimp only [lv]; rw [dcode_dsem]; rfl
theorem lv_snd0 (c : Dev nD) (r : Fin 7) (u : Unit) : lv (dcell c (0, r)) u = 0 := by dsimp only [lv]; rw [dcode_dsem]; rfl
theorem lv_snd2 (c : Dev nD) (r : Fin 7) (u : Unit) : lv (dcell c (2, r)) u = 0 := by dsimp only [lv]; rw [dcode_dsem]; rfl

/-- A wait is admissible when everything still owed lies above the cell waited on. -/
theorem mayWait (c : Dev nD) (sm : SemLoc sig) (b s a k : ℕ) (hk : lv ((c : Thread nD τ), sm) () ≤ k)
    (hb : (geS b).Nonempty → k < 1) (hs : (geS s).Nonempty → k < 2) (ha : (geS a).Nonempty → k < 3) :
    (levAts L lv : sProp 𝕄) ⊢ MayWait (c : Thread nD τ) sm () (debt c b s a) :=
  MayOwe.of_cut (L := L) (lev := lv) k (fun p hp => by rw [Finset.mem_singleton.mp hp, L_tc]; exact Finset.mem_singleton_self _)
    (fun g u hg => by
      rcases debt_pos hg with ⟨r, _, rfl⟩ | ⟨r, _, rfl⟩ | ⟨r, _, rfl⟩ <;> exact Finset.mem_singleton_self _)
    (fun p hp => by rw [Finset.mem_singleton.mp hp]; exact hk)
    (fun g u hg => by
      rcases debt_pos hg with ⟨r, hr, rfl⟩ | ⟨r, hr, rfl⟩ | ⟨r, hr, rfl⟩
      · rw [lv_bar]; exact hb ⟨r, hr⟩
      · rw [lv_rs]; exact hs ⟨r, hr⟩
      · rw [lv_ag]; exact ha ⟨r, hr⟩)

theorem mayWait_bar (c : Dev nD) : (levAts L lv : sProp 𝕄) ⊢ MayWait (c : Thread nD τ) (.reg barS) () (debt c 7 0 0) :=
  mayWait c _ 7 0 0 1 (le_of_eq (lv_bar c ())) (fun h => by rw [geS_seven] at h; exact absurd h (by simp)) (fun _ => by decide) (fun _ => by decide)
theorem mayWait_rs0 (c : Dev nD) (r : Fin 7) : (levAts L lv : sProp 𝕄) ⊢ MayWait (c : Thread nD τ) (.dma (dsem (0, r))) () (debt c 7 7 0) :=
  mayWait c _ 7 7 0 2 (by rw [lv_snd0]; decide) (fun h => by rw [geS_seven] at h; exact absurd h (by simp))
    (fun h => by rw [geS_seven] at h; exact absurd h (by simp)) (fun _ => by decide)
theorem mayWait_rs1 (c : Dev nD) (r : Fin 7) : (levAts L lv : sProp 𝕄) ⊢ MayWait (c : Thread nD τ) (.dma (dsem (1, r))) () (debt c 7 7 0) :=
  mayWait c _ 7 7 0 2 (by rw [lv_rs]) (fun h => by rw [geS_seven] at h; exact absurd h (by simp))
    (fun h => by rw [geS_seven] at h; exact absurd h (by simp)) (fun _ => by decide)

/-- The waits of the staging transfers, before the body and after it. -/
theorem mayWait_stage (c : Dev nD) (q : DmaSem sig) (hq : dcode q = none) (O : CellTallies nD τ sig Unit) (hO : O = O₀ c ∨ O = 0) :
    (levAts L lv : sProp 𝕄) ⊢ MayWait (c : Thread nD τ) (.dma q) () O := by
  rcases hO with rfl | rfl
  · exact mayWait c _ 0 0 0 0 (by dsimp only [lv]; rw [hq]) (fun _ => by decide) (fun _ => by decide) (fun _ => by decide)
  · rw [MayWait_zero]; iintro -; iempintro

end Cert.KernelIdeal.Moe

end
-- ==== Proof.Steps.lean ====
/-
# One step of each kind, for every lane

The state of a phase of the exchange after `n` lanes (the pieces of the lanes still to do, the pieces of the lanes done,
the debt), and what one signal, one copy, one wait and one load of lane `r` make of it.
-/
module

public import proofs.«01_k».proof.Proof.Sched

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, under the names `K`; every cell has reached round 0; the levels. -/
def records (K : Dev nD × CI → ℕ) : sProp 𝕄 :=
  iprop((bigSep Finset.univ fun ck : Dev nD × CI => cellInv ER (moeRd m ρ) (K ck) (kcell ck))
    ∗ bigSep Finset.univ fun ck : Dev nD × CI => reached ER (kcell ck) 0)
def known (K : Dev nD × CI → ℕ) : sProp 𝕄 := iprop(records m ρ K ∗ levAts L lv)

instance records_persistent (K : Dev nD × CI → ℕ) : BI.Persistent (records m ρ K) := by unfold records; infer_instance
instance known_persistent (K : Dev nD × CI → ℕ) : BI.Persistent (known m ρ K) := by unfold known; infer_instance

theorem inv_at (K : Dev nD × CI → ℕ) (ck : Dev nD × CI) : known m ρ K ⊢ cellInv ER (moeRd m ρ) (K ck) (kcell ck) := by
  unfold known records
  iintro ⟨⟨H, -⟩, -⟩
  iapply (show (bigSep Finset.univ fun ck : Dev nD × CI => (cellInv ER (moeRd m ρ) (K ck) (kcell ck) : sProp 𝕄)) ⊢ cellInv ER (moeRd m ρ) (K ck) (kcell ck)
    from bigSep_elim (Finset.mem_univ ck))
  iexact H
theorem reached_at (K : Dev nD × CI → ℕ) (ck : Dev nD × CI) : known m ρ K ⊢ reached ER (kcell ck) 0 := by
  unfold known records
  iintro ⟨⟨-, H⟩, -⟩
  iapply (show (bigSep Finset.univ fun ck : Dev nD × CI => (reached ER (kcell ck) 0 : sProp 𝕄)) ⊢ reached ER (kcell ck) 0
    from bigSep_elim (Finset.mem_univ ck))
  iexact H
theorem levels_at (K : Dev nD × CI → ℕ) : known m ρ K ⊢ levAts L lv := by
  unfold known; iintro ⟨-, H⟩; iexact H

/-- Some set of waits made so far, at debt `O`. -/
def owing (c : Dev nD) (O : CellTallies nD τ sig Unit) : sProp 𝕄 := iprop(∃ W, owes (c : Thread nD τ) O W)

/-! ## The signals -/

/-- What signal `r` uses: the right to make it, and the two slots it hands over. -/
def sigItem (c : Dev nD) (r : Fin 7) : sProp 𝕄 := iprop(dutyTok ER (barCell (mate r c)) 0 r ∗ (∃ f, rsPts r c f) ∗ (∃ f, agPts r c f))
def SigSt (c : Dev nD) (n : ℕ) : sProp 𝕄 := iprop(bigSep (geS n) (sigItem c) ∗ owing c (debt c n 0 0))

theorem step_signal (K : Dev nD × CI → ℕ) (c : Dev nD) (r : Fin 7) {n : Dev nD} (hn : n = mate r c)
    {α : Type} {Q : α → sProp 𝕄} {k : PUnit → Prog (TpuEff nD τ sig (Elt F) Λ₀ .tc) α} :
    iprop(known m ρ K ∗ SigSt c r.val)
      ⊢ iprop((SigSt c (r.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  unfold SigSt owing
  rw [bigSep_peel r]
  unfold sigItem
  iintro ⟨#Hk, ⟨⟨Ht, Hr, Ha⟩, Hrest⟩, ⟨%W, HO⟩⟩ HK
  iapply (Rounds.wp_signal 𝒱₀ ER (moeRd m ρ) (c : Thread nD τ) none (dst := (mate r c : Thread nD τ)) (κ := K (mate r c, .inl ()))
      (d := r) (by rw [duties_bar]; exact Finset.mem_univ _) (amount_bar m ρ (mate r c) r) () (debt c (r.val + 1) 0 0) (debt_bar c r 0 0) (W := W))
    $$ [HO Ht Hr Ha]
  · isplitr; · iapply (inv_at m ρ K (mate r c, .inl ())); iexact Hk
    isplitl [HO]; · iexact HO
    isplitl [Ht]; · iexact Ht
    isplitl [Hr Ha]
    · rw [payload_bar]; unfold barPay; rw [mate_mate]
      isplitl [Hr] <;> iassumption
    · iapply (reached_at m ρ K (mate r c, .inl ())); iexact Hk
  iintro HO
  iapply HK
  isplitl [Hrest]; · iexact Hrest
  iexists W; iexact HO

/-! ## The wait on the barrier -/

theorem step_barrier (K : Dev nD × CI → ℕ) (c : Dev nD)
    {α : Type} {Q : α → sProp 𝕄} {k : PUnit → Prog (TpuEff nD τ sig (Elt F) Λ₀ .tc) α} {w : TpuEff nD τ sig (Elt F) Λ₀ .tc PUnit}
    (hw : ∀ T : PUnit → sProp 𝕄, wpE (defs₀ (F := F)) 𝒱₀ (c : Thread nD τ) none Set.univ w T = waitSpec (c : Thread nD τ) Set.univ (.reg barS) 7 T) :
    iprop(known m ρ K ∗ cred (tallyAt (barCell c) () 7) ∗ atPos ER (barCell c) 0 ∅ 0 ∗ SigSt c 7)
      ⊢ iprop((((bigSep Finset.univ fun r => barPay r c) ∗ semVal (barCell c) 0 ∗ owing c (debt c 7 0 0))
              -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold SigSt owing
  iintro ⟨#Hk, Hc, Hat, -, ⟨%W, HO⟩⟩ HK
  iapply (Rounds.wp_wait_rest_token 𝒱₀ ER (moeRd m ρ) (c : Thread nD τ) none (κ := K (c, .inl ()))
      hw (Set.mem_univ _) () (O := debt c 7 0 0) (W := W) (R := 0) (m := 0) (T := ∅) (by rw [expect_bar])) $$ [Hc HO Hat]
  · isplitr; · iapply (inv_at m ρ K (c, .inl ())); iexact Hk
    isplitl [Hc]; · iexact Hc
    isplitl [HO]; · iexact HO
    isplitr; · iapply (mayWait_bar c); iapply (levels_at m ρ K); iexact Hk
    iexact Hat
  iintro ⟨HO, Hat, -, Hpay⟩
  imod (Rounds.cell_close ER (moeRd m ρ) (Set.mem_univ (K (c, .inl ()))) (fun h => h) (R := 0 + 1) (duties_later m ρ (barCell c))) $$ [Hat] with Hz
  · isplitr; · iapply (inv_at m ρ K (c, .inl ())); iexact Hk
    iexact Hat
  iapply HK
  isplitl [Hpay]; · iapply (Entails.of_eq (rest_bar m ρ c)); iexact Hpay
  isplitl [Hz]; · iexact Hz
  iexists _; iexact HO

/-! ## A wait on one of the kernel's own semaphores: what its one duty hands over, and the cell closed -/

theorem step_wait (K : Dev nD × CI → ℕ) (c : Dev nD) (x : Fin 4 × Fin 7) (O : CellTallies nD τ sig Unit)
    (hO : (levAts L lv : sProp 𝕄) ⊢ MayWait (c : Thread nD τ) (.dma (dsem x)) () O)
    {sem : DmaSem sig} (hsem : sem = dsem x) {s s' : Shape} {e e' : EltTy} {src : Memref sig .tc .vmem s' e'} {dst : Memref sig .tc .vmem s e}
    {hsrc : src.view.WordExact} {hdst : dst.view.WordExact} (hN : dst.view.dmaCredit = N)
    {α : Type} {Q : α → sProp 𝕄} {k : PUnit → Prog (TpuEff nD τ sig (Elt F) Λ₀ .tc) α} :
    iprop(known m ρ K ∗ (cred (tallyAt (dcell c x) () N) ∗ atPos ER (dcell c x) 0 ∅ 0) ∗ owing c O)
      ⊢ iprop(((dpay m ρ c x ∗ semVal (dcell c x) 0 ∗ owing c O)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold owing
  iintro ⟨#Hk, ⟨Hc, Hat⟩, ⟨%W, HO⟩⟩ HK
  iapply (Rounds.wp_wait_rest_token 𝒱₀ ER (moeRd m ρ) (c : Thread nD τ) none (κ := K (c, .inr x)) (sm := .dma (dsem x)) (k' := N)
      (fun T => by rw [wpE_waitDma2_eq 𝒱₀ (c : Thread nD τ) none Set.univ, hN]) (Set.mem_univ _) () (O := O) (W := W) (R := 0) (m := 0) (T := ∅)
      (by rw [Nat.zero_add]; exact (expect_own m ρ c x).symm)) $$ [Hc HO Hat]
  · isplitr; · iapply (inv_at m ρ K (c, .inr x)); iexact Hk
    isplitl [Hc]; · iexact Hc
    isplitl [HO]; · iexact HO
    isplitr; · iapply hO; iapply (levels_at m ρ K); iexact Hk
    iexact Hat
  iintro ⟨HO, Hat, -, Hpay⟩
  imod (Rounds.cell_close ER (moeRd m ρ) (Set.mem_univ (K (c, .inr x))) (fun h => h) (R := 0 + 1) (duties_later m ρ (dcell c x))) $$ [Hat] with Hz
  · isplitr; · iapply (inv_at m ρ K (c, .inr x)); iexact Hk
    iexact Hat
  iapply HK
  isplitl [Hpay]; · iapply (Entails.of_eq (rest_own m ρ c x)); iexact Hpay
  isplitl [Hz]; · iexact Hz
  iexists _; iexact HO

/-! ## The copies of the reduce-scatter -/

/-- What copy `r` uses: the rights to complete on both semaphores, the block sent, the slot it lands in. -/
def sendItem (c : Dev nD) (r : Fin 7) : sProp 𝕄 :=
  iprop(dutyTok ER (dcell c (0, r)) 0 0 ∗ dutyTok ER (dcell (mate r c) (1, r)) 0 0 ∗ blkPts m ρ c (mate r c) ∗ ∃ f, rsPts r (mate r c) f)
def SendSt (c : Dev nD) (n : ℕ) : sProp 𝕄 :=
  iprop(bigSep (geS n) (sendItem m ρ c) ∗ bigSep (ltS n) (fun r => cred (tallyAt (dcell c (0, r)) () N)) ∗ owing c (debt c 7 n 0))

theorem step_send (K : Dev nD × CI → ℕ) (c : Dev nD) (r : Fin 7) {n : Dev nD} (hn : n = mate r c)
    {src : Memref sig .tc .vmem S32x256 .bf16} (hs : src = blkM (mate r c))
    {qS qR : DmaSem sig} (hqS : qS = dsem (0, r)) (hqR : qR = dsem (1, r))
    {hsc : (rsSlot r : Memref sig (Dev.tc n : Thread nD τ).2.kind .vmem S32x256 .bf16).view.ref.isScScratch = false}
    {hsrc : src.view.WordExact} {hdst : (rsSlot r).view.WordExact}
    {hsem : DmaTarget.Typed .vmem (.dma qR) (.remote (Dev.tc n : Thread nD τ) (rsSlot r) (.dma qS) hsc)}
    {α : Type} {Q : α → sProp 𝕄} {k : PUnit → Prog (TpuEff nD τ sig (Elt F) Λ₀ .tc) α} :
    iprop(known m ρ K ∗ SendSt m ρ c r.val)
      ⊢ iprop((SendSt m ρ c (r.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (rsSlot r) (.dma qS) hsc) (.dma qR) hsrc hdst hsem) k) Q) := by
  subst hn hs hqS hqR
  unfold SendSt owing
  rw [bigSep_peel r, bigSep_push r]
  unfold sendItem
  iintro ⟨#Hk, ⟨⟨HtS, HtR, Hb, ⟨%fn, Hd⟩⟩, Hrest⟩, Hdone, ⟨%W, HO⟩⟩ HK
  unfold blkPts rsPts
  iapply (Rounds.wp_send_pointsTo 𝒱₀ ER (moeRd m ρ) (c : Thread nD τ) none (κ₁ := K (c, .inr (0, r))) (κ₂ := K (mate r c, .inr (1, r)))
    (r₁ := 0) (r₂ := 0) (d₁ := 0) (d₂ := 0) (fd := fn) (fs := partialC m ρ c)
    (by rw [duties_own]; exact Finset.mem_singleton_self _) (by rw [duties_own]; exact Finset.mem_singleton_self _)
    () () N rfl (amount_own m ρ c (0, r) 0) (amount_own m ρ (mate r c) (1, r) 0) (debt c 7 (r.val + 1) 0) (debt_rs c r 7 0) (W := W)
    (by rw [payload_own]; exact BI.Entails.refl _)
    (by rw [payload_own]
        show _ ⊢ rsPay m ρ r (mate r c)
        unfold rsPay rsPts
        iintro H
        iexists _
        isplitr
        rotate_left
        · iexact H
        · ipureintro; rw [View.read_write_univ, mate_mate]; rfl)) $$ [HO HtS HtR Hb Hd]
  · isplitr; · iapply (inv_at m ρ K (c, .inr (0, r))); iexact Hk
    isplitr; · iapply (inv_at m ρ K (mate r c, .inr (1, r))); iexact Hk
    isplitl [Hb]; · iexact Hb
    isplitl [Hd]; · iexact Hd
    isplitl [HO]; · iexact HO
    isplitl [HtS]; · iexact HtS
    isplitr; · iapply (reached_at m ρ K (c, .inr (0, r))); iexact Hk
    isplitl [HtR]; · iexact HtR
    iapply (reached_at m ρ K (mate r c, .inr (1, r))); iexact Hk
  iintro ⟨HcS, HO⟩
  iapply HK
  isplitl [Hrest]; · iexact Hrest
  isplitl [HcS Hdone]
  · isplitl [HcS] <;> iassumption
  iexists W; iexact HO

/-! ## The copies of the all-gather -/

def gatherItem (c : Dev nD) (r : Fin 7) : sProp 𝕄 :=
  iprop(dutyTok ER (dcell c (2, r)) 0 0 ∗ dutyTok ER (dcell (mate r c) (3, r)) 0 0 ∗ gPts m ρ r c ∗ ∃ f, agPts r (mate r c) f)
def GatherSt (c : Dev nD) (n : ℕ) : sProp 𝕄 :=
  iprop(bigSep (geS n) (gatherItem m ρ c) ∗ bigSep (ltS n) (fun r => cred (tallyAt (dcell c (2, r)) () N)) ∗ owing c (debt c 7 7 n))

theorem step_gather (K : Dev nD × CI → ℕ) (c : Dev nD) (r : Fin 7) {n : Dev nD} (hn : n = mate r c)
    {qS qR : DmaSem sig} (hqS : qS = dsem (2, r)) (hqR : qR = dsem (3, r))
    {hsc : (agSlot r : Memref sig (Dev.tc n : Thread nD τ).2.kind .vmem S32x256 .bf16).view.ref.isScScratch = false}
    {hsrc : (gM).view.WordExact} {hdst : (agSlot r).view.WordExact}
    {hsem : DmaTarget.Typed .vmem (.dma qR) (.remote (Dev.tc n : Thread nD τ) (agSlot r) (.dma qS) hsc)}
    {α : Type} {Q : α → sProp 𝕄} {k : PUnit → Prog (TpuEff nD τ sig (Elt F) Λ₀ .tc) α} :
    iprop(known m ρ K ∗ GatherSt m ρ c r.val)
      ⊢ iprop((GatherSt m ρ c (r.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma gM (.remote (Dev.tc n : Thread nD τ) (agSlot r) (.dma qS) hsc) (.dma qR) hsrc hdst hsem) k) Q) := by
  subst hn hqS hqR
  unfold GatherSt owing
  rw [bigSep_peel r, bigSep_push r]
  unfold gatherItem
  iintro ⟨#Hk, ⟨⟨HtS, HtR, Hb, ⟨%fn, Hd⟩⟩, Hrest⟩, Hdone, ⟨%W, HO⟩⟩ HK
  unfold gPts agPts
  iapply (Rounds.wp_send_pointsTo 𝒱₀ ER (moeRd m ρ) (c : Thread nD τ) none (κ₁ := K (c, .inr (2, r))) (κ₂ := K (mate r c, .inr (3, r)))
    (r₁ := 0) (r₂ := 0) (d₁ := 0) (d₂ := 0) (fd := fn) (fs := agVal m ρ c)
    (by rw [duties_own]; exact Finset.mem_singleton_self _) (by rw [duties_own]; exact Finset.mem_singleton_self _)
    () () N rfl (amount_own m ρ c (2, r) 0) (amount_own m ρ (mate r c) (3, r) 0) (debt c 7 7 (r.val + 1)) (debt_ag c r 7 7) (W := W)
    (by rw [payload_own]; exact BI.Entails.refl _)
    (by rw [payload_own]
        show _ ⊢ agPay m ρ r (mate r c)
        unfold agPay agPts
        iintro H
        iexists _
        isplitr
        rotate_left
        · iexact H
        · ipureintro; rw [View.read_write_univ, mate_mate]; exact View.read_whole _ _)) $$ [HO HtS HtR Hb Hd]
  · isplitr; · iapply (inv_at m ρ K (c, .inr (2, r))); iexact Hk
    isplitr; · iapply (inv_at m ρ K (mate r c, .inr (3, r))); iexact Hk
    isplitl [Hb]; · iexact Hb
    isplitl [Hd]; · iexact Hd
    isplitl [HO]; · iexact HO
    isplitl [HtS]; · iexact HtS
    isplitr; · iapply (reached_at m ρ K (c, .inr (2, r))); iexact Hk
    isplitl [HtR]; · iexact HtR
    iapply (reached_at m ρ K (mate r c, .inr (3, r))); iexact Hk
  iintro ⟨HcS, HO⟩
  iapply HK
  isplitl [Hrest]; · iexact Hrest
  isplitl [HcS Hdone]
  · isplitl [HcS] <;> iassumption
  iexists W; iexact HO

end Cert.KernelIdeal.Moe

end
-- ==== Proof.Waits.lean ====
/-
# The waits on the copies, the loads of what has landed, and the result's buffer
-/
module

public import proofs.«01_k».proof.Proof.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The waits: the send semaphore of a lane (family `a`), then its receive semaphore (family `b`) -/

/-- The credit and the position to wait once on the own semaphore `x`. -/
def ready (c : Dev nD) (x : Fin 4 × Fin 7) : sProp 𝕄 := iprop(cred (tallyAt (dcell c x) () N) ∗ atPos ER (dcell c x) 0 ∅ 0)
/-- What the wait leaves: what was handed over, the counter at zero. -/
def fin (c : Dev nD) (x : Fin 4 × Fin 7) : sProp 𝕄 := iprop(dpay m ρ c x ∗ semVal (dcell c x) 0)

def waitItem (c : Dev nD) (a b : Fin 4) (r : Fin 7) : sProp 𝕄 := iprop(ready c (a, r) ∗ ready c (b, r))
def doneItem (c : Dev nD) (a b : Fin 4) (r : Fin 7) : sProp 𝕄 := iprop(fin m ρ c (a, r) ∗ fin m ρ c (b, r))

/-- Lanes before `n` waited for, on both semaphores. -/
def WaitSt (c : Dev nD) (a b : Fin 4) (O : CellTallies nD τ sig Unit) (n : ℕ) : sProp 𝕄 :=
  iprop(bigSep (geS n) (waitItem c a b) ∗ bigSep (ltS n) (doneItem m ρ c a b) ∗ owing c O)
/-- and lane `r`'s send semaphore too; -/
def HalfSt (c : Dev nD) (a b : Fin 4) (O : CellTallies nD τ sig Unit) (r : Fin 7) : sProp 𝕄 :=
  iprop(ready c (b, r) ∗ fin m ρ c (a, r) ∗ bigSep (geS (r.val + 1)) (waitItem c a b) ∗ bigSep (ltS r.val) (doneItem m ρ c a b) ∗ owing c O)
/-- both of lane `r`'s, what its receive semaphore hands over kept apart. -/
def OpenSt (c : Dev nD) (a b : Fin 4) (O : CellTallies nD τ sig Unit) (r : Fin 7) : sProp 𝕄 :=
  iprop(semVal (dcell c (b, r)) 0 ∗ fin m ρ c (a, r) ∗ bigSep (geS (r.val + 1)) (waitItem c a b) ∗ bigSep (ltS r.val) (doneItem m ρ c a b) ∗ owing c O)

theorem close_lane (c : Dev nD) (a b : Fin 4) (O : CellTallies nD τ sig Unit) (r : Fin 7) :
    iprop(dpay m ρ c (b, r) ∗ OpenSt m ρ c a b O r) ⊢ WaitSt m ρ c a b O (r.val + 1) := by
  unfold OpenSt WaitSt
  rw [bigSep_push r]
  unfold doneItem
  iintro ⟨Hp, Hz, Hf, Hrest, Hdone, HO⟩
  isplitl [Hrest]; · iexact Hrest
  isplitr [HO]
  · isplitr [Hdone]
    · isplitl [Hf]; · iexact Hf
      unfold fin
      isplitl [Hp] <;> iassumption
    · iexact Hdone
  iexact HO

section
variable (K : Dev nD × CI → ℕ) (c : Dev nD) (a b : Fin 4) (O : CellTallies nD τ sig Unit) (r : Fin 7)
  {sem : DmaSem sig} {s s' : Shape} {e e' : EltTy} {src : Memref sig .tc .vmem s' e'} {dst : Memref sig .tc .vmem s e}
  {hsrc : src.view.WordExact} {hdst : dst.view.WordExact}

theorem step_wait_send {α : Type} {Q : α → sProp 𝕄} {k : PUnit → Prog (TpuEff nD τ sig (Elt F) Λ₀ .tc) α}
    (hO : (levAts L lv : sProp 𝕄) ⊢ MayWait (c : Thread nD τ) (.dma (dsem (a, r))) () O) (hsem : sem = dsem (a, r)) (hN : dst.view.dmaCredit = N) :
    iprop(known m ρ K ∗ WaitSt m ρ c a b O r.val)
      ⊢ iprop((HalfSt m ρ c a b O r -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  unfold WaitSt HalfSt
  rw [bigSep_peel r]
  unfold waitItem
  iintro ⟨#Hk, ⟨⟨Ha, Hb⟩, Hrest⟩, Hdone, HO⟩ HK
  unfold ready
  iapply (step_wait m ρ K c (a, r) O hO hsem hN) $$ [Ha HO]
  · isplitr; · iexact Hk
    isplitl [Ha] <;> iassumption
  iintro ⟨Hp, Hz, HO⟩
  iapply HK
  isplitl [Hb]; · iexact Hb
  isplitl [Hp Hz]
  · unfold fin
    isplitl [Hp] <;> iassumption
  isplitl [Hrest]; · iexact Hrest
  isplitl [Hdone] <;> iassumption

theorem step_wait_recv {α : Type} {Q : α → sProp 𝕄} {k : PUnit → Prog (TpuEff nD τ sig (Elt F) Λ₀ .tc) α}
    (hO : (levAts L lv : sProp 𝕄) ⊢ MayWait (c : Thread nD τ) (.dma (dsem (b, r))) () O) (hsem : sem = dsem (b, r)) (hN : dst.view.dmaCredit = N) :
    iprop(known m ρ K ∗ HalfSt m ρ c a b O r)
      ⊢ iprop(((dpay m ρ c (b, r) ∗ OpenSt m ρ c a b O r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  unfold HalfSt OpenSt
  iintro ⟨#Hk, Hb, Hf, Hrest, Hdone, HO⟩ HK
  unfold ready
  iapply (step_wait m ρ K c (b, r) O hO hsem hN) $$ [Hb HO]
  · isplitr; · iexact Hk
    isplitl [Hb] <;> iassumption
  iintro ⟨Hp, Hz, HO⟩
  iapply HK
  isplitl [Hp]; · iexact Hp
  isplitl [Hz]; · iexact Hz
  isplitl [Hf]; · iexact Hf
  isplitl [Hrest]; · iexact Hrest
  isplitl [Hdone] <;> iassumption
end

/-! ## The loads of a landed slot -/

theorem dpay_blk (c : Dev nD) (r : Fin 7) : dpay m ρ c (0, r) = blkPts m ρ c (mate r c) := rfl
theorem dpay_rs (c : Dev nD) (r : Fin 7) : dpay m ρ c (1, r) = rsPay m ρ r c := rfl
theorem dpay_g (c : Dev nD) (r : Fin 7) : dpay m ρ c (2, r) = gPts m ρ r c := rfl
theorem dpay_ag (c : Dev nD) (r : Fin 7) : dpay m ρ c (3, r) = agPay m ρ r c := rfl

theorem rs_reads (r : Fin 7) : (rM : Memref sig .tc .vmem S7x32x256 .bf16).view.setOn (lane r).toLoadRect.set ⊆ (rsSlot r).view.set := by
  refine subset_of_eq ?_
  rw [show (rsSlot r).view.set = ((rM : Memref sig .tc .vmem S7x32x256 .bf16).view.slice (lane r)).set from View.set_reshape _ _, View.set_slice]
  rfl
theorem ag_reads (r : Fin 7) : (aM : Memref sig .tc .vmem S7x32x256 .bf16).view.setOn (lane r).toLoadRect.set ⊆ (agSlot r).view.set := by
  refine subset_of_eq ?_
  rw [show (agSlot r).view.set = ((aM : Memref sig .tc .vmem S7x32x256 .bf16).view.slice (lane r)).set from View.set_reshape _ _, View.set_slice]
  rfl

section
variable (c : Dev nD) (O : CellTallies nD τ sig Unit) (r : Fin 7)
  {hl : (rM : Memref sig .tc .vmem S7x32x256 .bf16).view.LoadsAt (lane r).toLoadRect} {hl' : (aM : Memref sig .tc .vmem S7x32x256 .bf16).view.LoadsAt (lane r).toLoadRect}

/-- The load of lane `r`'s slot of the first landing buffer, -/
theorem step_load_rs {α : Type} {Q : α → sProp 𝕄} {k : Vec F S1x32x256 .bf16 → Prog (TpuEff nD τ sig (Elt F) Λ₀ .tc) α}
    (f : Buf (Elt F) ((rsSlot r).view.loc (c : Thread nD τ))) (hf : (rsSlot r).view.read (Elt F) f = rsVal m ρ (mate r c) c) :
    iprop(rsPts r c f ∗ OpenSt m ρ c 0 1 O r)
      ⊢ iprop((WaitSt m ρ c 0 1 O (r.val + 1) -∗ wp frame (wpE (defs₀ (F := F)) 𝒱₀ (c : Thread nD τ) none) Set.univ
            (k ((rM : Memref sig .tc .vmem S7x32x256 .bf16).view.readAt (Elt F) (lane r).toLoadRect f)) Q)
          -∗ wp frame (wpE (defs₀ (F := F)) 𝒱₀ (c : Thread nD τ) none) Set.univ (.op (.load rM (lane r).toLoadRect hl) k) Q) := by
  unfold rsPts
  iintro ⟨Hp, Hst⟩ HK
  iapply (wp_load 𝒱₀ (c : Thread nD τ) none Set.univ (m := rM) (rs_reads r)) $$ Hp; iintro Hp
  iapply HK
  iapply (close_lane m ρ c 0 1 O r)
  isplitl [Hp]
  · rw [dpay_rs]
    unfold rsPay rsPts
    iexists f
    isplitr; · (ipureintro; exact hf)
    iexact Hp
  iexact Hst

/-- and of the second. -/
theorem step_load_ag {α : Type} {Q : α → sProp 𝕄} {k : Vec F S1x32x256 .bf16 → Prog (TpuEff nD τ sig (Elt F) Λ₀ .tc) α}
    (f : Buf (Elt F) ((agSlot r).view.loc (c : Thread nD τ))) (hf : (agSlot r).view.read (Elt F) f = agVal m ρ (mate r c)) :
    iprop(agPts r c f ∗ OpenSt m ρ c 2 3 O r)
      ⊢ iprop((WaitSt m ρ c 2 3 O (r.val + 1) -∗ wp frame (wpE (defs₀ (F := F)) 𝒱₀ (c : Thread nD τ) none) Set.univ
            (k ((aM : Memref sig .tc .vmem S7x32x256 .bf16).view.readAt (Elt F) (lane r).toLoadRect f)) Q)
          -∗ wp frame (wpE (defs₀ (F := F)) 𝒱₀ (c : Thread nD τ) none) Set.univ (.op (.load aM (lane r).toLoadRect hl') k) Q) := by
  unfold agPts
  iintro ⟨Hp, Hst⟩ HK
  iapply (wp_load 𝒱₀ (c : Thread nD τ) none Set.univ (m := aM) (ag_reads r)) $$ Hp; iintro Hp
  iapply HK
  iapply (close_lane m ρ c 2 3 O r)
  isplitl [Hp]
  · rw [dpay_ag]
    unfold agPay agPts
    iexists f
    isplitr; · (ipureintro; exact hf)
    iexact Hp
  iexact Hst
end

/-- The load of the own block of the send buffer. -/
theorem step_load_own (c : Dev nD) {off : Fin 2 → ℕ} (hoff : off = ![32 * c.val, 0]) {inb : ∀ a, off a + S32x256.size a ≤ S256x256.size a}
    {hl : (sM : Memref sig .tc .vmem S256x256 .bf16).view.LoadsAt (Rect.unit (s := S256x256) off S32x256.size inb).toLoadRect}
    {α : Type} {Q : α → sProp 𝕄} {k : Vec F S32x256 .bf16 → Prog (TpuEff nD τ sig (Elt F) Λ₀ .tc) α} :
    blkPts m ρ c c
      ⊢ iprop((blkPts m ρ c c -∗ wp frame (wpE (defs₀ (F := F)) 𝒱₀ (c : Thread nD τ) none) Set.univ (k (rsVal m ρ c c)) Q)
          -∗ wp frame (wpE (defs₀ (F := F)) 𝒱₀ (c : Thread nD τ) none) Set.univ
            (.op (.load sM (Rect.unit (s := S256x256) off S32x256.size inb).toLoadRect hl) k) Q) := by
  subst hoff
  unfold blkPts
  exact wp_load_rect 𝒱₀ (c : Thread nD τ) none Set.univ (m := sM) (r := rows c) (Finset.Subset.refl _)

/-! ## The result's buffer -/

/-- Device `c`'s result buffer, the rows of the devices in `S` written. -/
def OutSt (c : Dev nD) (S : Finset (Dev nD)) : sProp 𝕄 :=
  iprop(∃ f : Buf (Elt F) ((c : Thread nD τ).loc cc0_stg4_0),
    ⌜∀ d ∈ S, ((oM : Memref sig .tc .vmem S256x256 .f32).view.slice (rows d)).read (Elt F) f = blkVal m ρ c d⌝ ∗ (((c : Thread nD τ).loc cc0_stg4_0) ↦{fullShare} f))

theorem rows_apart (d d' : Dev nD) (h : d' ≠ d) : Disjoint ((oM : Memref sig .tc .vmem S256x256 .f32).view.slice (rows d')).set
    (((oM : Memref sig .tc .vmem S256x256 .f32).view.slice (rows d)).setOn Finset.univ) := by
  have h1 : ((oM : Memref sig .tc .vmem S256x256 .f32).view.slice (rows d')).set = (rows d').set := View.set_slice_whole _ _
  have h2 : ((oM : Memref sig .tc .vmem S256x256 .f32).view.slice (rows d)).setOn Finset.univ = (rows d).set := View.set_slice_whole _ _
  rw [h1, h2]
  exact rows_disjoint d' d h

theorem read_apart (v : View sig .tc .vmem S256x256 .f32) (r r' : Rect S256x256) (f : v.ty.Contents (Elt F)) (w : r'.shape.Idx → Elt F .f32)
    (h : Disjoint (v.slice r).set ((v.slice r').setOn Finset.univ)) :
    (v.slice r).read (Elt F) ((v.slice r').write (Elt F) f w Finset.univ) = (v.slice r).read (Elt F) f :=
  View.read_congr fun _ hi => View.write_of_not_mem _ _ _ (Finset.disjoint_left.mp h hi)

theorem read_other (d d' : Dev nD) (h : d' ≠ d) (f : (oM : Memref sig .tc .vmem S256x256 .f32).view.ty.Contents (Elt F)) (w : (rows d).shape.Idx → Elt F .f32) :
    ((oM : Memref sig .tc .vmem S256x256 .f32).view.slice (rows d')).read (Elt F)
        (((oM : Memref sig .tc .vmem S256x256 .f32).view.slice (rows d)).write (Elt F) f w Finset.univ)
      = ((oM : Memref sig .tc .vmem S256x256 .f32).view.slice (rows d')).read (Elt F) f :=
  read_apart (oM : Memref sig .tc .vmem S256x256 .f32).view (rows d') (rows d) f w (rows_apart d d' h)

section
variable (c d : Dev nD) (S : Finset (Dev nD)) {off : Fin 2 → ℕ} {inb : ∀ a, off a + S32x256.size a ≤ S256x256.size a}

theorem step_out_load {α : Type} {Q : α → sProp 𝕄} {hl : (oM : Memref sig .tc .vmem S256x256 .f32).view.LoadsAt (Rect.unit (s := S256x256) off S32x256.size inb).toLoadRect}
    {k : Prog (TpuEff nD τ sig (Elt F) Λ₀ .tc) α} :
    OutSt m ρ c S
      ⊢ iprop((OutSt m ρ c S -∗ wp frame (wpE (defs₀ (F := F)) 𝒱₀ (c : Thread nD τ) none) Set.univ k Q)
          -∗ wp frame (wpE (defs₀ (F := F)) 𝒱₀ (c : Thread nD τ) none) Set.univ
            (.op (.load oM (Rect.unit (s := S256x256) off S32x256.size inb).toLoadRect hl) (fun _ => k)) Q) := by
  unfold OutSt
  iintro ⟨%f, %hf, H⟩ HK
  iapply (wp_load 𝒱₀ (c : Thread nD τ) none Set.univ (m := oM) (Finset.subset_univ _)) $$ H; iintro H
  iapply HK
  iexists f
  isplitr; · (ipureintro; exact hf)
  iexact H

theorem step_out_store {α : Type} {Q : α → sProp 𝕄} {w : FVec F S32x256 .f32} (hw : w = blkVal m ρ c d)
    {hx : ((oM : Memref sig .tc .vmem S256x256 .f32).access (Rect.unit (s := S256x256) off S32x256.size inb)).Stores Finset.univ}
    {hm : (Finset.univ : Finset (Rect.unit (s := S256x256) off S32x256.size inb).shape.Idx) = Finset.univ ∨ ∀ a, (Rect.unit (s := S256x256) off S32x256.size inb).stride a = 1}
    {k : PUnit → Prog (TpuEff nD τ sig (Elt F) Λ₀ .tc) α} (hoff : off = ![32 * d.val, 0]) :
    OutSt m ρ c S
      ⊢ iprop((OutSt m ρ c (insert d S) -∗ wp frame (wpE (defs₀ (F := F)) 𝒱₀ (c : Thread nD τ) none) Set.univ (k ⟨⟩) Q)
          -∗ wp frame (wpE (defs₀ (F := F)) 𝒱₀ (c : Thread nD τ) none) Set.univ
            (.op (.store oM (Rect.unit (s := S256x256) off S32x256.size inb) w Finset.univ hx hm) k) Q) := by
  subst hoff hw
  unfold OutSt
  iintro ⟨%f, %hf, H⟩ HK
  iapply (wp_store 𝒱₀ (c : Thread nD τ) none Set.univ (m := oM) (r := rows d) (Mk := Finset.univ) (Finset.subset_univ _)) $$ H; iintro H
  iapply HK
  iexists _
  isplitr
  rotate_left
  · iexact H
  · ipureintro
    intro d' hd'
    by_cases h : d' = d
    · subst h; exact View.read_write_univ _ _
    · exact (read_other d d' h f _).trans (hf d' ((Finset.mem_insert.mp hd').resolve_left h))
end

/-- A row's place among its device's rows. -/
def rowLoc (i : S256x256.Idx) : S32x256.Idx
  | 0 => ⟨(i 0).val % 32, Nat.mod_lt _ (by decide)⟩
  | 1 => ⟨(i 1).val, (i 1).isLt⟩

theorem rows_at (i : S256x256.Idx) : (rows (rowDev i)).emb (rowLoc i) = i := by
  funext a
  refine Fin.ext ?_
  fin_cases a
  · show 32 * ((i 0).val / 32) + 1 * ((i 0).val % 32) = (i 0).val
    omega
  · show 0 + 1 * (i 1).val = (i 1).val
    omega

/-- Device `c`'s result. -/
def outAt (c : Dev nD) : (cc0_stg4_0 : Ref sig .tc).ty.Contents (Elt F) := fun i => blkVal m ρ c (rowDev i) (rowLoc i)

theorem out_all (c : Dev nD) (f : (cc0_stg4_0 : Ref sig .tc).ty.Contents (Elt F))
    (h : ∀ d, ((oM : Memref sig .tc .vmem S256x256 .f32).view.slice (rows d)).read (Elt F) f = blkVal m ρ c d) : f = outAt m ρ c := by
  funext i
  have := congrFun (h (rowDev i)) (rowLoc i)
  unfold outAt
  rw [← this]
  exact congrArg f (rows_at i).symm

end Cert.KernelIdeal.Moe

end
-- ==== Proof.Regroup.lean ====
/-
# From one phase of the exchange to the next: what the buffers split into and join from
-/
module

public import proofs.«01_k».proof.Proof.Waits

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over lanes and over semaphores -/

theorem bigSep_family (Φ : Fin 4 × Fin 7 → sProp 𝕄) : bigSep Finset.univ Φ
    = iprop((bigSep Finset.univ fun r => Φ (0, r)) ∗ (bigSep Finset.univ fun r => Φ (1, r)) ∗ (bigSep Finset.univ fun r => Φ (2, r)) ∗ (bigSep Finset.univ fun r => Φ (3, r))) := by
  rw [bigSep_univ_prod]
  exact bigSep_univ_eq_bigSepL [(0 : Fin 4), 1, 2, 3] (by decide) (by decide) _

theorem geS_start (Φ : Fin 7 → sProp 𝕄) : bigSep (geS 0) Φ = bigSep Finset.univ Φ := by rw [geS_zero]
theorem geS_end (Φ : Fin 7 → sProp 𝕄) : bigSep (geS 7) Φ = iprop(emp) := by rw [geS_seven]; exact bigSep_empty
theorem ltS_start (Φ : Fin 7 → sProp 𝕄) : bigSep (ltS 0) Φ = iprop(emp) := by rw [ltS_zero]; exact bigSep_empty
theorem ltS_end (Φ : Fin 7 → sProp 𝕄) : bigSep (ltS 7) Φ = bigSep Finset.univ Φ := by rw [ltS_seven]

theorem lane_inj (c : Dev nD) : Function.Injective fun r : Fin 7 => mate r c := fun r r' h => mate_inj_lane r r' c h

/-- A conjunction over all devices: the device's own part, and its mates' lane by lane. -/
theorem bigSep_mates (c : Dev nD) (Φ : Dev nD → sProp 𝕄) : bigSep Finset.univ Φ = iprop(Φ c ∗ bigSep Finset.univ fun r : Fin 7 => Φ (mate r c)) := by
  have h : (Finset.univ.image fun r : Fin 7 => mate r c) = Finset.univ.map ⟨fun r => mate r c, lane_inj c⟩ := by
    rw [Finset.map_eq_image]; rfl
  have hc : c ∉ (Finset.univ.map ⟨fun r => mate r c, lane_inj c⟩ : Finset (Dev nD)) := by
    intro hm
    obtain ⟨r, _, hr⟩ := Finset.mem_map.mp hm
    exact mate_ne r c hr
  rw [univ_mates c, h, bigSep_insert hc, bigSep_map]
  rfl

/-! ## Buffers split and joined -/

abbrev scr (c : Dev nD) (b : Ref sig .tc) : sProp 𝕄 := iprop(∃ f : Buf (Elt F) (((c : Dev nD) : Thread nD τ).loc b), ((c : Thread nD τ).loc b) ↦{fullShare} f)

theorem blkPts_eq (c d : Dev nD) : blkPts m ρ c d = (((c : Thread nD τ).loc cc0_scratch0) ↦[(rows d).set]{fullShare} partialC m ρ c : sProp 𝕄) := by
  unfold blkPts; rw [blk_set]
theorem rsPts_eq (r : Fin 7) (c : Dev nD) (f : Buf (Elt F) ((c : Thread nD τ).loc cc0_scratch2)) :
    rsPts r c f = (((c : Thread nD τ).loc cc0_scratch2) ↦[(lane r).set]{fullShare} f : sProp 𝕄) := by unfold rsPts; rw [rsSlot_set]
theorem agPts_eq (r : Fin 7) (c : Dev nD) (f : Buf (Elt F) ((c : Thread nD τ).loc cc0_scratch3)) :
    agPts r c f = (((c : Thread nD τ).loc cc0_scratch3) ↦[(lane r).set]{fullShare} f : sProp 𝕄) := by unfold agPts; rw [agSlot_set]

theorem split_blk (c : Dev nD) :
    ((((c : Thread nD τ).loc cc0_scratch0) ↦{fullShare} partialC m ρ c) : sProp 𝕄)
      = iprop(blkPts m ρ c c ∗ bigSep Finset.univ fun r : Fin 7 => blkPts m ρ c (mate r c)) := by
  rw [← bigSep_mates c (fun d => blkPts m ρ c d)]
  rw [bigSep_congr (s := Finset.univ) (fun (d : Dev nD) _ => blkPts_eq m ρ c d)]
  exact Ring.pointsTo_blocks (ℓ := (c : Thread nD τ).loc cc0_scratch0) (fun d : Dev nD => (rows d).set) (fun b b' h => rows_disjoint b b' h) rows_cover (partialC m ρ c)

theorem rs_some (r : Fin 7) (c : Dev nD) (f : Buf (Elt F) ((c : Thread nD τ).loc cc0_scratch2)) :
    (((c : Thread nD τ).loc cc0_scratch2) ↦[(lane r).set]{fullShare} f : sProp 𝕄) ⊢ iprop(∃ f, rsPts r c f) := by
  rw [← rsPts_eq]; iintro H; iexists f; iexact H
theorem rs_forget (r : Fin 7) (c : Dev nD) : (rsPay m ρ r c : sProp 𝕄)
    ⊢ iprop(∃ f : Buf (Elt F) ((c : Thread nD τ).loc cc0_scratch2), ((c : Thread nD τ).loc cc0_scratch2) ↦[(lane r).set]{fullShare} f) := by
  unfold rsPay; iintro ⟨%f, -, H⟩; iexists f; rw [← rsPts_eq]; iexact H

theorem split_rs (c : Dev nD) : scr c cc0_scratch2 ⊢ (bigSep Finset.univ fun r : Fin 7 => iprop(∃ f, rsPts r c f) : sProp 𝕄) := by
  iintro ⟨%f, H⟩
  ihave H' := (Entails.of_eq (Ring.pointsTo_blocks (fun r : Fin 7 => (lane r).set) (fun b b' h => lane_disjoint b b' h) lane_cover f)) $$ H
  iapply (show (bigSep Finset.univ fun r : Fin 7 => (((c : Thread nD τ).loc cc0_scratch2) ↦[(lane r).set]{fullShare} f : sProp 𝕄))
      ⊢ bigSep Finset.univ fun r : Fin 7 => iprop(∃ f, rsPts r c f) from bigSep_mono fun r _ => rs_some r c f)
  iexact H'
theorem ag_some (r : Fin 7) (c : Dev nD) (f : Buf (Elt F) ((c : Thread nD τ).loc cc0_scratch3)) :
    (((c : Thread nD τ).loc cc0_scratch3) ↦[(lane r).set]{fullShare} f : sProp 𝕄) ⊢ iprop(∃ f, agPts r c f) := by
  rw [← agPts_eq]; iintro H; iexists f; iexact H
theorem ag_forget (r : Fin 7) (c : Dev nD) : (agPay m ρ r c : sProp 𝕄)
    ⊢ iprop(∃ f : Buf (Elt F) ((c : Thread nD τ).loc cc0_scratch3), ((c : Thread nD τ).loc cc0_scratch3) ↦[(lane r).set]{fullShare} f) := by
  unfold agPay; iintro ⟨%f, -, H⟩; iexists f; rw [← agPts_eq]; iexact H

theorem split_ag (c : Dev nD) : scr c cc0_scratch3 ⊢ (bigSep Finset.univ fun r : Fin 7 => iprop(∃ f, agPts r c f) : sProp 𝕄) := by
  iintro ⟨%f, H⟩
  ihave H' := (Entails.of_eq (Ring.pointsTo_blocks (fun r : Fin 7 => (lane r).set) (fun b b' h => lane_disjoint b b' h) lane_cover f)) $$ H
  iapply (show (bigSep Finset.univ fun r : Fin 7 => (((c : Thread nD τ).loc cc0_scratch3) ↦[(lane r).set]{fullShare} f : sProp 𝕄))
      ⊢ bigSep Finset.univ fun r : Fin 7 => iprop(∃ f, agPts r c f) from bigSep_mono fun r _ => ag_some r c f)
  iexact H'

theorem join_rs (c : Dev nD) : (bigSep Finset.univ fun r : Fin 7 => rsPay m ρ r c : sProp 𝕄) ⊢ scr c cc0_scratch2 := by
  have h1 := bigSep_mono (s := Finset.univ) (fun (r : Fin 7) _ => rs_forget m ρ r c)
  have h2 := Ring.pointsTo_blocks_join_exists (nD := nD) (τ := τ) (sig := sig) (Ix := Unit) (Val := Elt F) (Name := ℕ) (U := UU) (Lvl := ℕ)
    (ℓ := (c : Thread nD τ).loc cc0_scratch2) (q := fullShare) (fun r : Fin 7 => (lane r).set) (fun b b' h => lane_disjoint b b' h) lane_cover
    (m ((c : Thread nD τ).loc cc0_scratch2))
  exact h1.trans h2
theorem join_ag (c : Dev nD) : (bigSep Finset.univ fun r : Fin 7 => agPay m ρ r c : sProp 𝕄) ⊢ scr c cc0_scratch3 := by
  have h1 := bigSep_mono (s := Finset.univ) (fun (r : Fin 7) _ => ag_forget m ρ r c)
  have h2 := Ring.pointsTo_blocks_join_exists (nD := nD) (τ := τ) (sig := sig) (Ix := Unit) (Val := Elt F) (Name := ℕ) (U := UU) (Lvl := ℕ)
    (ℓ := (c : Thread nD τ).loc cc0_scratch3) (q := fullShare) (fun r : Fin 7 => (lane r).set) (fun b b' h => lane_disjoint b b' h) lane_cover
    (m ((c : Thread nD τ).loc cc0_scratch3))
  exact h1.trans h2

/-- What stays with the device of its second send buffer while the copies read it. -/
def gRest (c : Dev nD) : sProp 𝕄 := ((c : Thread nD τ).loc cc0_scratch1) ↦{Transfers.shareDrop fullShare 7} agVal m ρ c

theorem gM_set : (gM : Memref sig .tc .vmem S32x256 .bf16).view.set = Finset.univ := View.set_whole _

theorem split_g (c : Dev nD) :
    ((((c : Thread nD τ).loc cc0_scratch1) ↦{fullShare} agVal m ρ c) : sProp 𝕄) ⊢ iprop(gRest m ρ c ∗ bigSep Finset.univ fun r : Fin 7 => gPts m ρ r c) := by
  unfold gRest gPts
  rw [gM_set]
  exact Transfers.pointsTo_toks_split fullShare 7
theorem join_g (c : Dev nD) :
    iprop(gRest m ρ c ∗ bigSep Finset.univ fun r : Fin 7 => gPts m ρ r c) ⊢ ((((c : Thread nD τ).loc cc0_scratch1) ↦{fullShare} agVal m ρ c) : sProp 𝕄) := by
  unfold gRest gPts
  rw [gM_set]
  exact Transfers.pointsTo_toks_join fullShare 7

/-! ## From one phase to the next -/

abbrev atFam (c : Dev nD) (a : Fin 4) : sProp 𝕄 := bigSep Finset.univ fun r : Fin 7 => atPos ER (dcell c (a, r)) 0 ∅ 0
abbrev credFam (c : Dev nD) (a : Fin 4) : sProp 𝕄 := bigSep Finset.univ fun r : Fin 7 => cred (tallyAt (dcell c (a, r)) () N)
abbrev semFam (c : Dev nD) (a : Fin 4) : sProp 𝕄 := bigSep Finset.univ fun r : Fin 7 => semVal (dcell c (a, r)) 0
/-- The rights to perform the duties of the device's own semaphores, and of its mates'. -/
abbrev ownToks (c : Dev nD) (a : Fin 4) : sProp 𝕄 := bigSep Finset.univ fun r : Fin 7 => dutyTok ER (dcell c (a, r)) 0 0
abbrev mateToks (c : Dev nD) (a : Fin 4) : sProp 𝕄 := bigSep Finset.univ fun r : Fin 7 => dutyTok ER (dcell (mate r c) (a, r)) 0 0
abbrev barToks (c : Dev nD) : sProp 𝕄 := bigSep Finset.univ fun r : Fin 7 => dutyTok ER (barCell (mate r c)) 0 r

theorem sig_start (c : Dev nD) : iprop(barToks c ∗ scr c cc0_scratch2 ∗ scr c cc0_scratch3 ∗ owing c (O₀ c)) ⊢ (SigSt c 0 : sProp 𝕄) := by
  unfold SigSt sigItem O₀
  rw [geS_start, bigSep_sep', bigSep_sep']
  iintro ⟨Ht, H2, H3, HO⟩
  isplitr [HO]
  · isplitl [Ht]; · iexact Ht
    isplitl [H2]
    · iapply (split_rs c); iexact H2
    · iapply (split_ag c); iexact H3
  iexact HO

theorem send_start (c : Dev nD) :
    iprop((bigSep Finset.univ fun r => barPay r c) ∗ ownToks c 0 ∗ mateToks c 1 ∗ (((c : Thread nD τ).loc cc0_scratch0) ↦{fullShare} partialC m ρ c) ∗ owing c (debt c 7 0 0))
      ⊢ (iprop(SendSt m ρ c 0 ∗ blkPts m ρ c c ∗ bigSep Finset.univ fun r : Fin 7 => iprop(∃ f, agPts r (mate r c) f)) : sProp 𝕄) := by
  unfold SendSt sendItem barPay
  rw [geS_start, ltS_start, bigSep_sep', bigSep_sep', bigSep_sep', bigSep_sep', split_blk]
  iintro ⟨⟨Hr, Ha⟩, H0, H1, ⟨Hc, Hb⟩, HO⟩
  isplitr [Hc Ha]
  · isplitr [HO]
    · isplitl [H0]; · iexact H0
      isplitl [H1]; · iexact H1
      isplitl [Hb] <;> iassumption
    · isplitr; · iempintro
      iexact HO
  isplitl [Hc] <;> iassumption

theorem wait_start (c : Dev nD) (a b : Fin 4) (O : CellTallies nD τ sig Unit) :
    iprop(credFam c a ∗ atFam c a ∗ credFam c b ∗ atFam c b ∗ owing c O) ⊢ (WaitSt m ρ c a b O 0 : sProp 𝕄) := by
  unfold WaitSt waitItem ready
  rw [geS_start, ltS_start, bigSep_sep', bigSep_sep', bigSep_sep']
  iintro ⟨H1, H2, H3, H4, HO⟩
  isplitr [HO]
  · isplitl [H1 H2]
    · isplitl [H1] <;> iassumption
    · isplitl [H3] <;> iassumption
  isplitr; · iempintro
  iexact HO

theorem wait_end (c : Dev nD) (a b : Fin 4) (O : CellTallies nD τ sig Unit) :
    (WaitSt m ρ c a b O 7 : sProp 𝕄)
      ⊢ iprop(((bigSep Finset.univ fun r : Fin 7 => dpay m ρ c (a, r)) ∗ semFam c a) ∗ ((bigSep Finset.univ fun r : Fin 7 => dpay m ρ c (b, r)) ∗ semFam c b) ∗ owing c O) := by
  unfold WaitSt doneItem fin
  rw [geS_end, ltS_end, bigSep_sep', bigSep_sep', bigSep_sep']
  iintro ⟨-, H, HO⟩
  icases H with ⟨H1, H2⟩
  isplitl [H1]; · iexact H1
  isplitl [H2]; · iexact H2
  iexact HO

theorem send_end (c : Dev nD) : (SendSt m ρ c ((6 : Fin 7).val + 1) : sProp 𝕄) ⊢ iprop(credFam c 0 ∗ owing c (debt c 7 7 0)) := by
  rw [show (6 : Fin 7).val + 1 = 7 from rfl]
  unfold SendSt
  rw [geS_end, ltS_end]
  iintro ⟨-, H, HO⟩
  isplitl [H] <;> iassumption
theorem gather_end (c : Dev nD) : (GatherSt m ρ c ((6 : Fin 7).val + 1) : sProp 𝕄) ⊢ iprop(credFam c 2 ∗ owing c (debt c 7 7 7)) := by
  rw [show (6 : Fin 7).val + 1 = 7 from rfl]
  unfold GatherSt
  rw [geS_end, ltS_end]
  iintro ⟨-, H, HO⟩
  isplitl [H] <;> iassumption

theorem reduce_end (c : Dev nD) (O : CellTallies nD τ sig Unit) :
    (iprop(blkPts m ρ c c ∗ WaitSt m ρ c 0 1 O 7) : sProp 𝕄)
      ⊢ iprop(scr c cc0_scratch0 ∗ scr c cc0_scratch2 ∗ semFam c 0 ∗ semFam c 1 ∗ owing c O) := by
  iintro ⟨Hc, Hw⟩
  ihave H := (wait_end m ρ c 0 1 O) $$ Hw
  icases H with ⟨⟨Hb, H0⟩, ⟨Hr, H1⟩, HO⟩
  isplitl [Hc Hb]
  · iexists (partialC m ρ c)
    rw [split_blk]
    isplitl [Hc]; · iexact Hc
    iexact Hb
  isplitl [Hr]
  · iapply (join_rs m ρ c); iexact Hr
  isplitl [H0]; · iexact H0
  isplitl [H1] <;> iassumption

theorem gather_start (c : Dev nD) :
    iprop((bigSep Finset.univ fun r : Fin 7 => iprop(∃ f, agPts r (mate r c) f)) ∗ ownToks c 2 ∗ mateToks c 3
        ∗ (((c : Thread nD τ).loc cc0_scratch1) ↦{fullShare} agVal m ρ c) ∗ owing c (debt c 7 7 0))
      ⊢ (iprop(GatherSt m ρ c 0 ∗ gRest m ρ c) : sProp 𝕄) := by
  unfold GatherSt gatherItem
  rw [geS_start, ltS_start, bigSep_sep', bigSep_sep', bigSep_sep']
  iintro ⟨Ha, H2, H3, Hg, HO⟩
  ihave Hg' := (split_g m ρ c) $$ Hg
  icases Hg' with ⟨Hrest, Hg⟩
  isplitr [Hrest]
  · isplitr [HO]
    · isplitl [H2]; · iexact H2
      isplitl [H3]; · iexact H3
      isplitl [Hg] <;> iassumption
    · isplitr; · iempintro
      iexact HO
  iexact Hrest

theorem collect_end (c : Dev nD) (O : CellTallies nD τ sig Unit) :
    (iprop(gRest m ρ c ∗ WaitSt m ρ c 2 3 O 7) : sProp 𝕄)
      ⊢ iprop(scr c cc0_scratch1 ∗ scr c cc0_scratch3 ∗ semFam c 2 ∗ semFam c 3 ∗ owing c O) := by
  iintro ⟨Hc, Hw⟩
  ihave H := (wait_end m ρ c 2 3 O) $$ Hw
  icases H with ⟨⟨Hb, H0⟩, ⟨Hr, H1⟩, HO⟩
  isplitl [Hc Hb]
  · iexists (agVal m ρ c)
    iapply (join_g m ρ c)
    isplitl [Hc]; · iexact Hc
    iexact Hb
  isplitl [Hr]
  · iapply (join_ag m ρ c); iexact Hr
  isplitl [H0]; · iexact H0
  isplitl [H1] <;> iassumption

end Cert.KernelIdeal.Moe

end
-- ==== Proof.Parts.lean ====
/-
# The fifteen parts of the kernel, executed one effect at a time
-/
module

public import proofs.«01_k».proof.Proof.Regroup

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each half of the exchange still owes while it waits -/

abbrev DR (c : Dev nD) : CellTallies nD τ sig Unit := debt c 7 7 0
abbrev DG (c : Dev nD) : CellTallies nD τ sig Unit := debt c 7 7 7

theorem mayWait_last (c : Dev nD) (sm : SemLoc sig) : (levAts L lv : sProp 𝕄) ⊢ MayWait (c : Thread nD τ) sm () (DG c) := by
  rw [show DG c = 0 from debt_none c, MayWait_zero]; iintro -; iempintro

/-- What a copy of the block sent over lane `r` adds to a semaphore. -/
theorem credit_sent (c : Dev nD) (r : Fin 7) :
    (sM.slice (Rect.unit (s := S256x256) (k0_off1 c (BitVec.ofNat 32 (1 + r.val))) S32x256.size (k0_off1_inb c r)) (fun _ => rfl) : Memref sig .tc .vmem S32x256 .bf16).view.dmaCredit = N := rfl

/-! ## The devices named by the kernel -/
theorem dev1_eq : ∀ c : Dev nD, (⟨k0_dev1 c, k0_dev1_lt c⟩ : Dev nD) = mate 0 c := by decide +kernel
theorem dev8_eq : ∀ c : Dev nD, (⟨k0_dev8 c, k0_dev8_lt c⟩ : Dev nD) = mate 0 c := by decide +kernel
theorem dev15_eq : ∀ c : Dev nD, (⟨k0_dev15 c, k0_dev15_lt c⟩ : Dev nD) = mate 0 c := by decide +kernel
theorem dev2_eq : ∀ c : Dev nD, (⟨k0_dev2 c, k0_dev2_lt c⟩ : Dev nD) = mate 1 c := by decide +kernel
theorem dev9_eq : ∀ c : Dev nD, (⟨k0_dev9 c, k0_dev9_lt c⟩ : Dev nD) = mate 1 c := by decide +kernel
theorem dev16_eq : ∀ c : Dev nD, (⟨k0_dev16 c, k0_dev16_lt c⟩ : Dev nD) = mate 1 c := by decide +kernel
theorem dev3_eq : ∀ c : Dev nD, (⟨k0_dev3 c, k0_dev3_lt c⟩ : Dev nD) = mate 2 c := by decide +kernel
theorem dev10_eq : ∀ c : Dev nD, (⟨k0_dev10 c, k0_dev10_lt c⟩ : Dev nD) = mate 2 c := by decide +kernel
theorem dev17_eq : ∀ c : Dev nD, (⟨k0_dev17 c, k0_dev17_lt c⟩ : Dev nD) = mate 2 c := by decide +kernel
theorem dev4_eq : ∀ c : Dev nD, (⟨k0_dev4 c, k0_dev4_lt c⟩ : Dev nD) = mate 3 c := by decide +kernel
theorem dev11_eq : ∀ c : Dev nD, (⟨k0_dev11 c, k0_dev11_lt c⟩ : Dev nD) = mate 3 c := by decide +kernel
theorem dev18_eq : ∀ c : Dev nD, (⟨k0_dev18 c, k0_dev18_lt c⟩ : Dev nD) = mate 3 c := by decide +kernel
theorem dev5_eq : ∀ c : Dev nD, (⟨k0_dev5 c, k0_dev5_lt c⟩ : Dev nD) = mate 4 c := by decide +kernel
theorem dev12_eq : ∀ c : Dev nD, (⟨k0_dev12 c, k0_dev12_lt c⟩ : Dev nD) = mate 4 c := by decide +kernel
theorem dev19_eq : ∀ c : Dev nD, (⟨k0_dev19 c, k0_dev19_lt c⟩ : Dev nD) = mate 4 c := by decide +kernel
theorem dev6_eq : ∀ c : Dev nD, (⟨k0_dev6 c, k0_dev6_lt c⟩ : Dev nD) = mate 5 c := by decide +kernel
theorem dev13_eq : ∀ c : Dev nD, (⟨k0_dev13 c, k0_dev13_lt c⟩ : Dev nD) = mate 5 c := by decide +kernel
theorem dev20_eq : ∀ c : Dev nD, (⟨k0_dev20 c, k0_dev20_lt c⟩ : Dev nD) = mate 5 c := by decide +kernel
theorem dev7_eq : ∀ c : Dev nD, (⟨k0_dev7 c, k0_dev7_lt c⟩ : Dev nD) = mate 6 c := by decide +kernel
theorem dev14_eq : ∀ c : Dev nD, (⟨k0_dev14 c, k0_dev14_lt c⟩ : Dev nD) = mate 6 c := by decide +kernel
theorem dev21_eq : ∀ c : Dev nD, (⟨k0_dev21 c, k0_dev21_lt c⟩ : Dev nD) = mate 6 c := by decide +kernel
theorem off2_mine (c : Dev nD) : k0_off2 c = ![32 * c.val, 0] := k0_off2_eq c

/-! ## Values -/

/-- What lane `r` brings of device `c`'s rows. -/
abbrev R (c : Dev nD) (r : Fin 7) : FVec F S32x256 .bf16 := rsVal m ρ (mate r c) c
abbrev rsRead (r : Fin 7) (f : (cc0_scratch2 : Ref sig .tc).ty.Contents (Elt F)) : Vec F S1x32x256 .bf16 := (rM : Memref sig .tc .vmem S7x32x256 .bf16).view.readAt (Elt F) (lane r).toLoadRect f

theorem slot_rs (r : Fin 7) (f : (cc0_scratch2 : Ref sig .tc).ty.Contents (Elt F)) {v : FVec F S32x256 .bf16} (h : (rsSlot r).view.read (Elt F) f = v) :
    (shapeCast S32x256 (rsRead r f) shapeCasts_S1x32x256_S32x256 : FVec F S32x256 .bf16) = v := h

theorem pay3_sum (c : Dev nD) (acc : FVec F S32x256 .f32) {f0 f1 : (cc0_scratch2 : Ref sig .tc).ty.Contents (Elt F)}
    (h0 : (rsSlot 0).view.read (Elt F) f0 = R m ρ c 0) (h1 : (rsSlot 1).view.read (Elt F) f1 = R m ρ c 1) :
    k0_pay3 acc (rsRead 0 f0) (rsRead 1 f1) = addBlk (addBlk acc (R m ρ c 0)) (R m ρ c 1) := by
  rw [← slot_rs 0 f0 h0, ← slot_rs 1 f1 h1]; rfl
theorem pay4_sum (c : Dev nD) (acc : FVec F S32x256 .f32) {f2 : (cc0_scratch2 : Ref sig .tc).ty.Contents (Elt F)} (h2 : (rsSlot 2).view.read (Elt F) f2 = R m ρ c 2) :
    k0_pay4 acc (rsRead 2 f2) = addBlk acc (R m ρ c 2) := by
  rw [← slot_rs 2 f2 h2]; rfl
theorem pay5_sum (c : Dev nD) (acc : FVec F S32x256 .f32) {f3 f4 : (cc0_scratch2 : Ref sig .tc).ty.Contents (Elt F)}
    (h3 : (rsSlot 3).view.read (Elt F) f3 = R m ρ c 3) (h4 : (rsSlot 4).view.read (Elt F) f4 = R m ρ c 4) :
    k0_pay5 acc (rsRead 3 f3) (rsRead 4 f4) = addBlk (addBlk acc (R m ρ c 3)) (R m ρ c 4) := by
  rw [← slot_rs 3 f3 h3, ← slot_rs 4 f4 h4]; rfl
theorem pay6_sum (c : Dev nD) (acc : FVec F S32x256 .f32) {f5 f6 : (cc0_scratch2 : Ref sig .tc).ty.Contents (Elt F)}
    (h5 : (rsSlot 5).view.read (Elt F) f5 = R m ρ c 5) (h6 : (rsSlot 6).view.read (Elt F) f6 = R m ρ c 6) :
    k0_pay6 acc (rsRead 5 f5) (rsRead 6 f6) = addBlk (addBlk acc (R m ρ c 5)) (R m ρ c 6) := by
  rw [← slot_rs 5 f5 h5, ← slot_rs 6 f6 h6]; rfl

theorem red_sum (c : Dev nD) : addBlk (addBlk (addBlk (addBlk (addBlk (addBlk (addBlk (k0_pay2 (rsVal m ρ c c)) (R m ρ c 0)) (R m ρ c 1)) (R m ρ c 2)) (R m ρ c 3)) (R m ρ c 4)) (R m ρ c 5)) (R m ρ c 6)
    = redC m ρ c := rfl

theorem open_rs (c : Dev nD) (r : Fin 7) : (dpay m ρ c (1, r) : sProp 𝕄) ⊢ iprop(∃ f, ⌜(rsSlot r).view.read (Elt F) f = rsVal m ρ (mate r c) c⌝ ∗ rsPts r c f) := by
  rw [dpay_rs]; unfold rsPay; exact Entails.refl _
theorem open_ag (c : Dev nD) (r : Fin 7) : (dpay m ρ c (3, r) : sProp 𝕄) ⊢ iprop(∃ f, ⌜(agSlot r).view.read (Elt F) f = agVal m ρ (mate r c)⌝ ∗ agPts r c f) := by
  rw [dpay_ag]; unfold agPay; exact Entails.refl _

/-- What is stored from a landed slot of the all-gather. -/
theorem blk_ag (c : Dev nD) (r : Fin 7) (f : (cc0_scratch3 : Ref sig .tc).ty.Contents (Elt F)) (h : (agSlot r).view.read (Elt F) f = agVal m ρ (mate r c)) :
    (extf .f32 (shapeCast S32x256 ((aM : Memref sig .tc .vmem S7x32x256 .bf16).view.readAt (Elt F) (lane r).toLoadRect f) shapeCasts_S1x32x256_S32x256 : FVec F S32x256 .bf16) bitsLt_bf16_f32 : FVec F S32x256 .f32)
      = blkVal m ρ c (mate r c) := by
  unfold blkVal; rw [if_neg (mate_ne r c), ← h]; rfl
theorem blk_own (c : Dev nD) : redC m ρ c = blkVal m ρ c c := by unfold blkVal; rw [if_pos rfl]

theorem zeros2 : (![0, 0] : Fin 2 → Nat) = fun _ => 0 := funext fun a => by fin_cases a <;> rfl

/-! ## The parts of the kernel, in order -/

variable (K : Dev nD × CI → ℕ) (c : Dev nD)

/-- The signals of lanes 0 to 5. -/
theorem part1 {α : Type} {Q : α → sProp 𝕄} {k : (Σ' (d0 : Dev nD) (v2 : BitVec 32) (v3 : Sems sig S_), BitVec 32) → Prog (TpuEff nD τ sig (Elt F) Λ₀ .tc) α} :
    iprop(known m ρ K ∗ SigSt c 0)
      ⊢ iprop(((SigSt c 6) -∗ wp frame (wpE (defs₀ (F := F)) 𝒱₀ (c : Thread nD τ) none) Set.univ (k ⟨c, myWord c, SemArray.scalar (sig.barrier 0 rfl), Scalar.muli (Scalar.xori (myWord c) 7#32) 1#32⟩) Q)
          -∗ wp frame (wpE (defs₀ (F := F)) 𝒱₀ (c : Thread nD τ) none) Set.univ
            (k0_part1 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7  >>= k) Q) := by
  rw [k0_part1_eq_skeleton]; unfold k0_part1_skel
  simp only [semSignalWord, semWaitWord, Prog.lift, Prog.bind_op, Prog.bind_ret, Prog.bind_assoc, Prog.pure_eq_ret, wp_deviceId]
  iintro ⟨#Hk, St⟩ HK
  iapply (step_signal m ρ K c 0 (dev1_eq c)) $$ [St]
  · isplitr; · iexact Hk
    iexact St
  iintro St
  iapply (step_signal m ρ K c 1 (dev2_eq c)) $$ [St]
  · isplitr; · iexact Hk
    iexact St
  iintro St
  iapply (step_signal m ρ K c 2 (dev3_eq c)) $$ [St]
  · isplitr; · iexact Hk
    iexact St
  iintro St
  iapply (step_signal m ρ K c 3 (dev4_eq c)) $$ [St]
  · isplitr; · iexact Hk
    iexact St
  iintro St
  iapply (step_signal m ρ K c 4 (dev5_eq c)) $$ [St]
  · isplitr; · iexact Hk
    iexact St
  iintro St
  iapply (step_signal m ρ K c 5 (dev6_eq c)) $$ [St]
  · isplitr; · iexact Hk
    iexact St
  iintro St
  iapply HK
  iexact St

/-- The last signal, and the partial sums stored to the send buffer. -/
theorem part2 (v23 : BitVec 32) {α : Type} {Q : α → sProp 𝕄} {k : PUnit → Prog (TpuEff nD τ sig (Elt F) Λ₀ .tc) α} :
    iprop(known m ρ K ∗ SigSt c 6 ∗ ((((c : Thread nD τ).loc cc0_stg0_0) ↦{fullShare} xstg m ρ c) ∗ (((c : Thread nD τ).loc cc0_stg2_0) ↦{fullShare} istg m ρ c) ∗ (((c : Thread nD τ).loc cc0_stg3_0) ↦{fullShare} wstg m ρ c)) ∗ scr c cc0_scratch0)
      ⊢ iprop(((SigSt c 7 ∗ ((((c : Thread nD τ).loc cc0_stg0_0) ↦{fullShare} xstg m ρ c) ∗ (((c : Thread nD τ).loc cc0_stg2_0) ↦{fullShare} istg m ρ c) ∗ (((c : Thread nD τ).loc cc0_stg3_0) ↦{fullShare} wstg m ρ c)) ∗ (((c : Thread nD τ).loc cc0_scratch0) ↦{fullShare} partialC m ρ c)) -∗ wp frame (wpE (defs₀ (F := F)) 𝒱₀ (c : Thread nD τ) none) Set.univ (k ⟨⟩) Q)
          -∗ wp frame (wpE (defs₀ (F := F)) 𝒱₀ (c : Thread nD τ) none) Set.univ
            (k0_part2 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c (myWord c) (SemArray.scalar (sig.barrier 0 rfl)) v23 >>= k) Q) := by
  rw [k0_part2_eq_skeleton]; unfold k0_part2_skel
  simp only [semSignalWord, semWaitWord, Prog.lift, Prog.bind_op, Prog.bind_ret, Prog.bind_assoc, Prog.pure_eq_ret, wp_deviceId]
  iintro ⟨#Hk, St, ⟨Hx, Hi, Hw⟩, ⟨%f, Hs⟩⟩ HK
  iapply (step_signal m ρ K c 6 (dev7_eq c)) $$ [St]
  · isplitr; · iexact Hk
    iexact St
  iintro St
  iapply (wp_load 𝒱₀ (c : Thread nD τ) none Set.univ (m := iM) (Finset.subset_univ _)) $$ Hi; iintro Hi
  rw [show (iM : Memref sig .tc .vmem S256x1 .i32).view.readAt (Elt F) (Rect.unit (s := S256x1) ![0, 0] S256x1.size inb_S256x1_S256x1_0_0).toLoadRect (istg m ρ c) = istg m ρ c
    from Memref.readAt_unit_zero (Elt F) cc0_stg2_0 zeros2 _ _]
  iapply (wp_load 𝒱₀ (c : Thread nD τ) none Set.univ (m := xM) (Finset.subset_univ _)) $$ Hx; iintro Hx
  rw [show (xM : Memref sig .tc .vmem S256x128 .bf16).view.readAt (Elt F) (Rect.unit (s := S256x128) ![0, 0] S256x128.size inb_S256x128_S256x128_0_0).toLoadRect (xstg m ρ c) = xstg m ρ c
    from Memref.readAt_unit_zero (Elt F) cc0_stg0_0 zeros2 _ _]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := sM) (Finset.subset_univ _)) $$ Hs; iintro Hs
  iapply (wp_store 𝒱₀ (c : Thread nD τ) none Set.univ (m := sM) (r := Rect.unit (s := S256x256) ![0, 0] S256x256.size inb_S256x256_S256x256_0_0) (Mk := Finset.univ) (Finset.subset_univ _)) $$ Hs; iintro Hs
  rw [show ∀ g w : (cc0_scratch0 : Ref sig .tc).ty.Contents (Elt F), ((sM : Memref sig .tc .vmem S256x256 .bf16).access (Rect.unit (s := S256x256) ![0, 0] S256x256.size inb_S256x256_S256x256_0_0) : View sig .tc _ _ _).write (Elt F) g w Finset.univ = w
    from fun g w => Memref.write_access_unit_zero_univ (Elt F) cc0_scratch0 zeros2 _ g w]
  iapply HK
  isplitl [St]; · iexact St
  isplitl [Hx Hi Hw]
  · isplitl [Hx]; · iexact Hx
    isplitl [Hi] <;> iassumption
  iexact Hs

/-- The wait on the barrier, and the copies of lanes 0 and 1. -/
theorem part3 (v2 : BitVec 32) {α : Type} {Q : α → sProp 𝕄} {k : (Σ' (v60 : BitVec 32) (v71 : BitVec 32), BitVec 32) → Prog (TpuEff nD τ sig (Elt F) Λ₀ .tc) α} :
    iprop(known m ρ K ∗ (cred (tallyAt (barCell c) () 7) ∗ atPos ER (barCell c) 0 ∅ 0 ∗ SigSt c 7) ∗ ownToks c 0 ∗ mateToks c 1 ∗ (((c : Thread nD τ).loc cc0_scratch0) ↦{fullShare} partialC m ρ c))
      ⊢ iprop(((SendSt m ρ c 2 ∗ blkPts m ρ c c ∗ (bigSep Finset.univ fun r : Fin 7 => iprop(∃ f, agPts r (mate r c) f)) ∗ semVal (barCell c) 0) -∗ wp frame (wpE (defs₀ (F := F)) 𝒱₀ (c : Thread nD τ) none) Set.univ (k ⟨Scalar.xori v2 1#32, Scalar.xori v2 2#32, Scalar.xori v2 3#32⟩) Q)
          -∗ wp frame (wpE (defs₀ (F := F)) 𝒱₀ (c : Thread nD τ) none) Set.univ
            (k0_part3 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 (SemArray.scalar (sig.barrier 0 rfl)) >>= k) Q) := by
  rw [k0_part3_eq_skeleton]; unfold k0_part3_skel
  simp only [semSignalWord, semWaitWord, Prog.lift, Prog.bind_op, Prog.bind_ret, Prog.bind_assoc, Prog.pure_eq_ret, wp_deviceId]
  iintro ⟨#Hk, Hb, H0, H1, Hs⟩ HK
  iapply (step_barrier m ρ K c (wpE_semWait_eq 𝒱₀ (c : Thread nD τ) none Set.univ)) $$ [Hb]
  · isplitr; · iexact Hk
    iexact Hb
  iintro ⟨Hp, Hz, HO⟩
  ihave H := (send_start m ρ c) $$ [Hp H0 H1 Hs HO]
  · isplitl [Hp]; · iexact Hp
    isplitl [H0]; · iexact H0
    isplitl [H1]; · iexact H1
    isplitl [Hs] <;> iassumption
  icases H with ⟨St, Hc, Ha⟩
  iapply (step_send m ρ K c 0 (dev8_eq c) (sent_eq c 0) (laneSem0 0) (laneSem1 0)) $$ [St]
  · isplitr; · iexact Hk
    iexact St
  iintro St
  iapply (step_send m ρ K c 1 (dev9_eq c) (sent_eq c 1) (laneSem0 1) (laneSem1 1)) $$ [St]
  · isplitr; · iexact Hk
    iexact St
  iintro St
  iapply HK
  isplitl [St]; · iexact St
  isplitl [Hc]; · iexact Hc
  isplitl [Ha]; · iexact Ha
  iexact Hz

/-- The copies of lanes 2 to 4. -/
theorem part4 (v2 : BitVec 32) {α : Type} {Q : α → sProp 𝕄} {k : (Σ' (v93 : BitVec 32) (v104 : BitVec 32), BitVec 32) → Prog (TpuEff nD τ sig (Elt F) Λ₀ .tc) α} :
    iprop(known m ρ K ∗ SendSt m ρ c 2)
      ⊢ iprop(((SendSt m ρ c 5) -∗ wp frame (wpE (defs₀ (F := F)) 𝒱₀ (c : Thread nD τ) none) Set.univ (k ⟨Scalar.xori v2 4#32, Scalar.xori v2 5#32, Scalar.xori v2 6#32⟩) Q)
          -∗ wp frame (wpE (defs₀ (F := F)) 𝒱₀ (c : Thread nD τ) none) Set.univ
            (k0_part4 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 >>= k) Q) := by
  rw [k0_part4_eq_skeleton]; unfold k0_part4_skel
  simp only [semSignalWord, semWaitWord, Prog.lift, Prog.bind_op, Prog.bind_ret, Prog.bind_assoc, Prog.pure_eq_ret, wp_deviceId]
  iintro ⟨#Hk, St⟩ HK
  iapply (step_send m ρ K c 2 (dev10_eq c) (sent_eq c 2) (laneSem0 2) (laneSem1 2)) $$ [St]
  · isplitr; · iexact Hk
    iexact St
  iintro St
  iapply (step_send m ρ K c 3 (dev11_eq c) (sent_eq c 3) (laneSem0 3) (laneSem1 3)) $$ [St]
  · isplitr; · iexact Hk
    iexact St
  iintro St
  iapply (step_send m ρ K c 4 (dev12_eq c) (sent_eq c 4) (laneSem0 4) (laneSem1 4)) $$ [St]
  · isplitr; · iexact Hk
    iexact St
  iintro St
  iapply HK
  iexact St

/-- The copies of lanes 5 and 6, the device's own block, and the wait on lane 0's send semaphore. -/
theorem part5 (v2 v115 : BitVec 32) {α : Type} {Q : α → sProp 𝕄} {k : (Σ' (v126 : BitVec 32) (v140 : FVec F S32x256 .f32), BitVec 32) → Prog (TpuEff nD τ sig (Elt F) Λ₀ .tc) α} :
    iprop(known m ρ K ∗ SendSt m ρ c 5 ∗ blkPts m ρ c c ∗ atFam c 0 ∗ credFam c 1 ∗ atFam c 1)
      ⊢ iprop(((blkPts m ρ c c ∗ HalfSt m ρ c 0 1 (DR c) 0) -∗ wp frame (wpE (defs₀ (F := F)) 𝒱₀ (c : Thread nD τ) none) Set.univ (k ⟨Scalar.xori v2 7#32, k0_pay2 (rsVal m ρ c c), 1#32⟩) Q)
          -∗ wp frame (wpE (defs₀ (F := F)) 𝒱₀ (c : Thread nD τ) none) Set.univ
            (k0_part5 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 v115 >>= k) Q) := by
  rw [k0_part5_eq_skeleton]; unfold k0_part5_skel
  simp only [semSignalWord, semWaitWord, Prog.lift, Prog.bind_op, Prog.bind_ret, Prog.bind_assoc, Prog.pure_eq_ret, wp_deviceId]
  iintro ⟨#Hk, St, Hc, Hat0, Hcr1, Hat1⟩ HK
  iapply (step_send m ρ K c 5 (dev13_eq c) (sent_eq c 5) (laneSem0 5) (laneSem1 5)) $$ [St]
  · isplitr; · iexact Hk
    iexact St
  iintro St
  iapply (step_send m ρ K c 6 (dev14_eq c) (sent_eq c 6) (laneSem0 6) (laneSem1 6)) $$ [St]
  · isplitr; · iexact Hk
    iexact St
  iintro St
  iapply (step_load_own m ρ c (off2_mine c)) $$ Hc; iintro Hc
  ihave He := (send_end m ρ c) $$ St
  icases He with ⟨Hcr0, HO⟩
  ihave St := (wait_start m ρ c 0 1 (DR c)) $$ [Hcr0 Hat0 Hcr1 Hat1 HO]
  · isplitl [Hcr0]; · iexact Hcr0
    isplitl [Hat0]; · iexact Hat0
    isplitl [Hcr1]; · iexact Hcr1
    isplitl [Hat1] <;> iassumption
  iapply (step_wait_send m ρ K c 0 1 (DR c) 0 (mayWait_rs0 c 0) (laneSem0 0) (credit_sent c 0)) $$ [St]
  · isplitr; · iexact Hk
    iexact St
  iintro St
  iapply HK
  isplitl [Hc]; · iexact Hc
  iexact St

/-- Lanes 0 and 1 of the reduce-scatter landed and added. -/
theorem part6 (v60 v71 c1_i32_121 : BitVec 32) (v140 : FVec F S32x256 .f32) {α : Type} {Q : α → sProp 𝕄} {k : (FVec F S32x256 .f32) → Prog (TpuEff nD τ sig (Elt F) Λ₀ .tc) α} :
    iprop(known m ρ K ∗ HalfSt m ρ c 0 1 (DR c) 0)
      ⊢ iprop(((WaitSt m ρ c 0 1 (DR c) 2) -∗ wp frame (wpE (defs₀ (F := F)) 𝒱₀ (c : Thread nD τ) none) Set.univ (k (addBlk (addBlk v140 (R m ρ c 0)) (R m ρ c 1))) Q)
          -∗ wp frame (wpE (defs₀ (F := F)) 𝒱₀ (c : Thread nD τ) none) Set.univ
            (k0_part6 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v60 v71 v140 c1_i32_121 >>= k) Q) := by
  rw [k0_part6_eq_skeleton]; unfold k0_part6_skel
  simp only [semSignalWord, semWaitWord, Prog.lift, Prog.bind_op, Prog.bind_ret, Prog.bind_assoc, Prog.pure_eq_ret, wp_deviceId]
  iintro ⟨#Hk, St⟩ HK
  iapply (step_wait_recv m ρ K c 0 1 (DR c) 0 (mayWait_rs1 c 0) (laneSem1 0) (credit_rs 0)) $$ [St]
  · isplitr; · iexact Hk
    iexact St
  iintro ⟨Hp, St⟩
  ihave Hp := (open_rs m ρ c 0) $$ Hp
  icases Hp with ⟨%f0, %h0, Hp⟩
  iapply (step_load_rs m ρ c (DR c) 0 f0 h0) $$ [Hp St]
  · isplitl [Hp] <;> iassumption
  iintro St
  iapply (step_wait_send m ρ K c 0 1 (DR c) 1 (mayWait_rs0 c 1) (laneSem0 1) (credit_sent c 1)) $$ [St]
  · isplitr; · iexact Hk
    iexact St
  iintro St
  iapply (step_wait_recv m ρ K c 0 1 (DR c) 1 (mayWait_rs1 c 1) (laneSem1 1) (credit_rs 1)) $$ [St]
  · isplitr; · iexact Hk
    iexact St
  iintro ⟨Hp, St⟩
  ihave Hp := (open_rs m ρ c 1) $$ Hp
  icases Hp with ⟨%f1, %h1, Hp⟩
  iapply (step_load_rs m ρ c (DR c) 1 f1 h1) $$ [Hp St]
  · isplitl [Hp] <;> iassumption
  iintro St
  rw [pay3_sum m ρ c v140 h0 h1]
  iapply HK
  iexact St

/-- Lane 2 landed and added; lane 3 landed. -/
theorem part7 (v82 v93 : BitVec 32) (v172 : FVec F S32x256 .f32) {α : Type} {Q : α → sProp 𝕄} {k : (FVec F S32x256 .f32) → Prog (TpuEff nD τ sig (Elt F) Λ₀ .tc) α} :
    iprop(known m ρ K ∗ WaitSt m ρ c 0 1 (DR c) 2)
      ⊢ iprop(((dpay m ρ c (1, 3) ∗ OpenSt m ρ c 0 1 (DR c) 3) -∗ wp frame (wpE (defs₀ (F := F)) 𝒱₀ (c : Thread nD τ) none) Set.univ (k (addBlk v172 (R m ρ c 2))) Q)
          -∗ wp frame (wpE (defs₀ (F := F)) 𝒱₀ (c : Thread nD τ) none) Set.univ
            (k0_part7 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v82 v93 v172 >>= k) Q) := by
  rw [k0_part7_eq_skeleton]; unfold k0_part7_skel
  simp only [semSignalWord, semWaitWord, Prog.lift, Prog.bind_op, Prog.bind_ret, Prog.bind_assoc, Prog.pure_eq_ret, wp_deviceId]
  iintro ⟨#Hk, St⟩ HK
  iapply (step_wait_send m ρ K c 0 1 (DR c) 2 (mayWait_rs0 c 2) (laneSem0 2) (credit_sent c 2)) $$ [St]
  · isplitr; · iexact Hk
    iexact St
  iintro St
  iapply (step_wait_recv m ρ K c 0 1 (DR c) 2 (mayWait_rs1 c 2) (laneSem1 2) (credit_rs 2)) $$ [St]
  · isplitr; · iexact Hk
    iexact St
  iintro ⟨Hp, St⟩
  ihave Hp := (open_rs m ρ c 2) $$ Hp
  icases Hp with ⟨%f2, %h2, Hp⟩
  iapply (step_load_rs m ρ c (DR c) 2 f2 h2) $$ [Hp St]
  · isplitl [Hp] <;> iassumption
  iintro St
  iapply (step_wait_send m ρ K c 0 1 (DR c) 3 (mayWait_rs0 c 3) (laneSem0 3) (credit_sent c 3)) $$ [St]
  · isplitr; · iexact Hk
    iexact St
  iintro St
  iapply (step_wait_recv m ρ K c 0 1 (DR c) 3 (mayWait_rs1 c 3) (laneSem1 3) (credit_rs 3)) $$ [St]
  · isplitr; · iexact Hk
    iexact St
  iintro ⟨Hp, St⟩
  rw [pay4_sum m ρ c v172 h2]
  iapply HK
  isplitl [Hp]; · iexact Hp
  iexact St

/-- Lanes 3 and 4 added. -/
theorem part8 (v104 : BitVec 32) (v188 : FVec F S32x256 .f32) {α : Type} {Q : α → sProp 𝕄} {k : (Σ' (v220 : FVec F S32x256 .f32), BitVec 32) → Prog (TpuEff nD τ sig (Elt F) Λ₀ .tc) α} :
    iprop(known m ρ K ∗ dpay m ρ c (1, 3) ∗ OpenSt m ρ c 0 1 (DR c) 3)
      ⊢ iprop(((HalfSt m ρ c 0 1 (DR c) 5) -∗ wp frame (wpE (defs₀ (F := F)) 𝒱₀ (c : Thread nD τ) none) Set.univ (k ⟨addBlk (addBlk v188 (R m ρ c 3)) (R m ρ c 4), 1#32⟩) Q)
          -∗ wp frame (wpE (defs₀ (F := F)) 𝒱₀ (c : Thread nD τ) none) Set.univ
            (k0_part8 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v104 v188 >>= k) Q) := by
  rw [k0_part8_eq_skeleton]; unfold k0_part8_skel
  simp only [semSignalWord, semWaitWord, Prog.lift, Prog.bind_op, Prog.bind_ret, Prog.bind_assoc, Prog.pure_eq_ret, wp_deviceId]
  iintro ⟨#Hk, Hp, St⟩ HK
  ihave Hp := (open_rs m ρ c 3) $$ Hp
  icases Hp with ⟨%f3, %h3, Hp⟩
  iapply (step_load_rs m ρ c (DR c) 3 f3 h3) $$ [Hp St]
  · isplitl [Hp] <;> iassumption
  iintro St
  iapply (step_wait_send m ρ K c 0 1 (DR c) 4 (mayWait_rs0 c 4) (laneSem0 4) (credit_sent c 4)) $$ [St]
  · isplitr; · iexact Hk
    iexact St
  iintro St
  iapply (step_wait_recv m ρ K c 0 1 (DR c) 4 (mayWait_rs1 c 4) (laneSem1 4) (credit_rs 4)) $$ [St]
  · isplitr; · iexact Hk
    iexact St
  iintro ⟨Hp, St⟩
  ihave Hp := (open_rs m ρ c 4) $$ Hp
  icases Hp with ⟨%f4, %h4, Hp⟩
  iapply (step_load_rs m ρ c (DR c) 4 f4 h4) $$ [Hp St]
  · isplitl [Hp] <;> iassumption
  iintro St
  iapply (step_wait_send m ρ K c 0 1 (DR c) 5 (mayWait_rs0 c 5) (laneSem0 5) (credit_sent c 5)) $$ [St]
  · isplitr; · iexact Hk
    iexact St
  iintro St
  rw [pay5_sum m ρ c v188 h3 h4]
  iapply HK
  iexact St

/-- Lanes 5 and 6 added. -/
theorem part9 (v2 v115 v126 c1_i32_208 : BitVec 32) (v220 : FVec F S32x256 .f32) (S : Finset (Dev nD)) {α : Type} {Q : α → sProp 𝕄} {k : (FVec F S32x256 .f32) → Prog (TpuEff nD τ sig (Elt F) Λ₀ .tc) α} :
    iprop(known m ρ K ∗ HalfSt m ρ c 0 1 (DR c) 5 ∗ OutSt m ρ c S)
      ⊢ iprop(((WaitSt m ρ c 0 1 (DR c) 7 ∗ OutSt m ρ c S) -∗ wp frame (wpE (defs₀ (F := F)) 𝒱₀ (c : Thread nD τ) none) Set.univ (k (addBlk (addBlk v220 (R m ρ c 5)) (R m ρ c 6))) Q)
          -∗ wp frame (wpE (defs₀ (F := F)) 𝒱₀ (c : Thread nD τ) none) Set.univ
            (k0_part9 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 v115 v126 v220 c1_i32_208 >>= k) Q) := by
  rw [k0_part9_eq_skeleton]; unfold k0_part9_skel
  simp only [semSignalWord, semWaitWord, Prog.lift, Prog.bind_op, Prog.bind_ret, Prog.bind_assoc, Prog.pure_eq_ret, wp_deviceId]
  iintro ⟨#Hk, St, Ho⟩ HK
  iapply (step_wait_recv m ρ K c 0 1 (DR c) 5 (mayWait_rs1 c 5) (laneSem1 5) (credit_rs 5)) $$ [St]
  · isplitr; · iexact Hk
    iexact St
  iintro ⟨Hp, St⟩
  ihave Hp := (open_rs m ρ c 5) $$ Hp
  icases Hp with ⟨%f5, %h5, Hp⟩
  iapply (step_load_rs m ρ c (DR c) 5 f5 h5) $$ [Hp St]
  · isplitl [Hp] <;> iassumption
  iintro St
  iapply (step_wait_send m ρ K c 0 1 (DR c) 6 (mayWait_rs0 c 6) (laneSem0 6) (credit_sent c 6)) $$ [St]
  · isplitr; · iexact Hk
    iexact St
  iintro St
  iapply (step_wait_recv m ρ K c 0 1 (DR c) 6 (mayWait_rs1 c 6) (laneSem1 6) (credit_rs 6)) $$ [St]
  · isplitr; · iexact Hk
    iexact St
  iintro ⟨Hp, St⟩
  ihave Hp := (open_rs m ρ c 6) $$ Hp
  icases Hp with ⟨%f6, %h6, Hp⟩
  iapply (step_load_rs m ρ c (DR c) 6 f6 h6) $$ [Hp St]
  · isplitl [Hp] <;> iassumption
  iintro St
  iapply (step_out_load m ρ c _) $$ Ho; iintro Ho
  rw [pay6_sum m ρ c v220 h5 h6]
  iapply HK
  isplitl [St]; · iexact St
  iexact Ho

/-- The own rows stored to the result and, rounded, to the second send buffer; the copies of lanes 0 and 1 of the all-gather. -/
theorem part10 (v2 : BitVec 32) (S : Finset (Dev nD)) {α : Type} {Q : α → sProp 𝕄} {k : (Σ' (v260 : BitVec 32) (v269 : BitVec 32), BitVec 32) → Prog (TpuEff nD τ sig (Elt F) Λ₀ .tc) α} :
    iprop(known m ρ K ∗ OutSt m ρ c S ∗ scr c cc0_scratch1 ∗ (bigSep Finset.univ fun r : Fin 7 => iprop(∃ f, agPts r (mate r c) f)) ∗ ownToks c 2 ∗ mateToks c 3 ∗ owing c (DR c))
      ⊢ iprop(((OutSt m ρ c (insert c S) ∗ gRest m ρ c ∗ GatherSt m ρ c 2) -∗ wp frame (wpE (defs₀ (F := F)) 𝒱₀ (c : Thread nD τ) none) Set.univ (k ⟨Scalar.xori v2 1#32, Scalar.xori v2 2#32, Scalar.xori v2 3#32⟩) Q)
          -∗ wp frame (wpE (defs₀ (F := F)) 𝒱₀ (c : Thread nD τ) none) Set.univ
            (k0_part10 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 (redC m ρ c) >>= k) Q) := by
  rw [k0_part10_eq_skeleton]; unfold k0_part10_skel
  simp only [semSignalWord, semWaitWord, Prog.lift, Prog.bind_op, Prog.bind_ret, Prog.bind_assoc, Prog.pure_eq_ret, wp_deviceId]
  iintro ⟨#Hk, Ho, ⟨%f, Hg⟩, Ha, H2, H3, HO⟩ HK
  iapply (step_out_store m ρ c c _ (blk_own m ρ c) (off2_mine c)) $$ Ho; iintro Ho
  iapply (wp_load 𝒱₀ (c : Thread nD τ) none Set.univ (m := gM) (Finset.subset_univ _)) $$ Hg; iintro Hg
  iapply (wp_store 𝒱₀ (c : Thread nD τ) none Set.univ (m := gM) (r := Rect.unit (s := S32x256) ![0, 0] S32x256.size inb_S32x256_S32x256_0_0) (Mk := Finset.univ) (Finset.subset_univ _)) $$ Hg; iintro Hg
  rw [show ∀ g w : (cc0_scratch1 : Ref sig .tc).ty.Contents (Elt F), ((gM : Memref sig .tc .vmem S32x256 .bf16).access (Rect.unit (s := S32x256) ![0, 0] S32x256.size inb_S32x256_S32x256_0_0) : View sig .tc _ _ _).write (Elt F) g w Finset.univ = w
    from fun g w => Memref.write_access_unit_zero_univ (Elt F) cc0_scratch1 zeros2 _ g w]
  ihave H := (gather_start m ρ c) $$ [Ha H2 H3 Hg HO]
  · isplitl [Ha]; · iexact Ha
    isplitl [H2]; · iexact H2
    isplitl [H3]; · iexact H3
    isplitl [Hg]; · iexact Hg
    iexact HO
  icases H with ⟨St, Hr⟩
  iapply (step_gather m ρ K c 0 (dev15_eq c) (laneSem2 0) (laneSem3 0)) $$ [St]
  · isplitr; · iexact Hk
    iexact St
  iintro St
  iapply (step_gather m ρ K c 1 (dev16_eq c) (laneSem2 1) (laneSem3 1)) $$ [St]
  · isplitr; · iexact Hk
    iexact St
  iintro St
  iapply HK
  isplitl [Ho]; · iexact Ho
  isplitl [Hr]; · iexact Hr
  iexact St

/-- The copies of lanes 2 to 5. -/
theorem part11 (v2 : BitVec 32) {α : Type} {Q : α → sProp 𝕄} {k : (Σ' (v287 : BitVec 32) (v296 : BitVec 32) (v305 : BitVec 32), BitVec 32) → Prog (TpuEff nD τ sig (Elt F) Λ₀ .tc) α} :
    iprop(known m ρ K ∗ GatherSt m ρ c 2)
      ⊢ iprop(((GatherSt m ρ c 6) -∗ wp frame (wpE (defs₀ (F := F)) 𝒱₀ (c : Thread nD τ) none) Set.univ (k ⟨Scalar.xori v2 4#32, Scalar.xori v2 5#32, Scalar.xori v2 6#32, Scalar.xori v2 7#32⟩) Q)
          -∗ wp frame (wpE (defs₀ (F := F)) 𝒱₀ (c : Thread nD τ) none) Set.univ
            (k0_part11 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 >>= k) Q) := by
  rw [k0_part11_eq_skeleton]; unfold k0_part11_skel
  simp only [semSignalWord, semWaitWord, Prog.lift, Prog.bind_op, Prog.bind_ret, Prog.bind_assoc, Prog.pure_eq_ret, wp_deviceId]
  iintro ⟨#Hk, St⟩ HK
  iapply (step_gather m ρ K c 2 (dev17_eq c) (laneSem2 2) (laneSem3 2)) $$ [St]
  · isplitr; · iexact Hk
    iexact St
  iintro St
  iapply (step_gather m ρ K c 3 (dev18_eq c) (laneSem2 3) (laneSem3 3)) $$ [St]
  · isplitr; · iexact Hk
    iexact St
  iintro St
  iapply (step_gather m ρ K c 4 (dev19_eq c) (laneSem2 4) (laneSem3 4)) $$ [St]
  · isplitr; · iexact Hk
    iexact St
  iintro St
  iapply (step_gather m ρ K c 5 (dev20_eq c) (laneSem2 5) (laneSem3 5)) $$ [St]
  · isplitr; · iexact Hk
    iexact St
  iintro St
  iapply HK
  iexact St

/-- The copy of lane 6; the rows of lane 0 landed and stored. -/
theorem part12 (v2 v260 v314 : BitVec 32) (S : Finset (Dev nD)) {α : Type} {Q : α → sProp 𝕄} {k : PUnit → Prog (TpuEff nD τ sig (Elt F) Λ₀ .tc) α} :
    iprop(known m ρ K ∗ (GatherSt m ρ c 6 ∗ atFam c 2 ∗ credFam c 3 ∗ atFam c 3) ∗ OutSt m ρ c S)
      ⊢ iprop(((WaitSt m ρ c 2 3 (DG c) 1 ∗ OutSt m ρ c (insert (mate 0 c) S)) -∗ wp frame (wpE (defs₀ (F := F)) 𝒱₀ (c : Thread nD τ) none) Set.univ (k ⟨⟩) Q)
          -∗ wp frame (wpE (defs₀ (F := F)) 𝒱₀ (c : Thread nD τ) none) Set.univ
            (k0_part12 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 v260 v314 >>= k) Q) := by
  rw [k0_part12_eq_skeleton]; unfold k0_part12_skel
  simp only [semSignalWord, semWaitWord, Prog.lift, Prog.bind_op, Prog.bind_ret, Prog.bind_assoc, Prog.pure_eq_ret, wp_deviceId]
  iintro ⟨#Hk, ⟨St, Hat2, Hcr3, Hat3⟩, Ho⟩ HK
  iapply (step_gather m ρ K c 6 (dev21_eq c) (laneSem2 6) (laneSem3 6)) $$ [St]
  · isplitr; · iexact Hk
    iexact St
  iintro St
  ihave He := (gather_end m ρ c) $$ St
  icases He with ⟨Hcr2, HO⟩
  ihave St := (wait_start m ρ c 2 3 (DG c)) $$ [Hcr2 Hat2 Hcr3 Hat3 HO]
  · isplitl [Hcr2]; · iexact Hcr2
    isplitl [Hat2]; · iexact Hat2
    isplitl [Hcr3]; · iexact Hcr3
    isplitl [Hat3] <;> iassumption
  iapply (step_wait_send m ρ K c 2 3 (DG c) 0 (mayWait_last c _) (laneSem2 0) credit_g) $$ [St]
  · isplitr; · iexact Hk
    iexact St
  iintro St
  iapply (step_wait_recv m ρ K c 2 3 (DG c) 0 (mayWait_last c _) (laneSem3 0) (credit_ag 0)) $$ [St]
  · isplitr; · iexact Hk
    iexact St
  iintro ⟨Hp, St⟩
  ihave Hp := (open_ag m ρ c 0) $$ Hp
  icases Hp with ⟨%f0, %h0, Hp⟩
  iapply (step_load_ag m ρ c (DG c) 0 f0 h0) $$ [Hp St]
  · isplitl [Hp] <;> iassumption
  iintro St
  iapply (step_out_load m ρ c _) $$ Ho; iintro Ho
  iapply (step_out_store m ρ c (mate 0 c) _ (blk_ag m ρ c 0 f0 h0) (off3_eq c 0)) $$ Ho; iintro Ho
  iapply HK
  isplitl [St]; · iexact St
  iexact Ho

/-- The rows of lane 1 landed and stored; those of lane 2 landed. -/
theorem part13 (v2 v269 v278 : BitVec 32) (S : Finset (Dev nD)) {α : Type} {Q : α → sProp 𝕄} {k : PUnit → Prog (TpuEff nD τ sig (Elt F) Λ₀ .tc) α} :
    iprop(known m ρ K ∗ WaitSt m ρ c 2 3 (DG c) 1 ∗ OutSt m ρ c S)
      ⊢ iprop(((dpay m ρ c (3, 2) ∗ OpenSt m ρ c 2 3 (DG c) 2 ∗ OutSt m ρ c (insert (mate 1 c) S)) -∗ wp frame (wpE (defs₀ (F := F)) 𝒱₀ (c : Thread nD τ) none) Set.univ (k ⟨⟩) Q)
          -∗ wp frame (wpE (defs₀ (F := F)) 𝒱₀ (c : Thread nD τ) none) Set.univ
            (k0_part13 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 v269 v278 >>= k) Q) := by
  rw [k0_part13_eq_skeleton]; unfold k0_part13_skel
  simp only [semSignalWord, semWaitWord, Prog.lift, Prog.bind_op, Prog.bind_ret, Prog.bind_assoc, Prog.pure_eq_ret, wp_deviceId]
  iintro ⟨#Hk, St, Ho⟩ HK
  iapply (step_wait_send m ρ K c 2 3 (DG c) 1 (mayWait_last c _) (laneSem2 1) credit_g) $$ [St]
  · isplitr; · iexact Hk
    iexact St
  iintro St
  iapply (step_wait_recv m ρ K c 2 3 (DG c) 1 (mayWait_last c _) (laneSem3 1) (credit_ag 1)) $$ [St]
  · isplitr; · iexact Hk
    iexact St
  iintro ⟨Hp, St⟩
  ihave Hp := (open_ag m ρ c 1) $$ Hp
  icases Hp with ⟨%f1, %h1, Hp⟩
  iapply (step_load_ag m ρ c (DG c) 1 f1 h1) $$ [Hp St]
  · isplitl [Hp] <;> iassumption
  iintro St
  iapply (step_out_load m ρ c _) $$ Ho; iintro Ho
  iapply (step_out_store m ρ c (mate 1 c) _ (blk_ag m ρ c 1 f1 h1) (off3_eq c 1)) $$ Ho; iintro Ho
  iapply (step_wait_send m ρ K c 2 3 (DG c) 2 (mayWait_last c _) (laneSem2 2) credit_g) $$ [St]
  · isplitr; · iexact Hk
    iexact St
  iintro St
  iapply (step_wait_recv m ρ K c 2 3 (DG c) 2 (mayWait_last c _) (laneSem3 2) (credit_ag 2)) $$ [St]
  · isplitr; · iexact Hk
    iexact St
  iintro ⟨Hp, St⟩
  iapply HK
  isplitl [Hp]; · iexact Hp
  isplitl [St]; · iexact St
  iexact Ho

/-- The rows of lane 2 stored; those of lane 3 landed and stored. -/
theorem part14 (v2 v287 : BitVec 32) (S : Finset (Dev nD)) {α : Type} {Q : α → sProp 𝕄} {k : PUnit → Prog (TpuEff nD τ sig (Elt F) Λ₀ .tc) α} :
    iprop(known m ρ K ∗ dpay m ρ c (3, 2) ∗ OpenSt m ρ c 2 3 (DG c) 2 ∗ OutSt m ρ c S)
      ⊢ iprop(((WaitSt m ρ c 2 3 (DG c) 4 ∗ OutSt m ρ c (insert (mate 3 c) (insert (mate 2 c) S))) -∗ wp frame (wpE (defs₀ (F := F)) 𝒱₀ (c : Thread nD τ) none) Set.univ (k ⟨⟩) Q)
          -∗ wp frame (wpE (defs₀ (F := F)) 𝒱₀ (c : Thread nD τ) none) Set.univ
            (k0_part14 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 v287 >>= k) Q) := by
  rw [k0_part14_eq_skeleton]; unfold k0_part14_skel
  simp only [semSignalWord, semWaitWord, Prog.lift, Prog.bind_op, Prog.bind_ret, Prog.bind_assoc, Prog.pure_eq_ret, wp_deviceId]
  iintro ⟨#Hk, Hp, St, Ho⟩ HK
  ihave Hp := (open_ag m ρ c 2) $$ Hp
  icases Hp with ⟨%f2, %h2, Hp⟩
  iapply (step_load_ag m ρ c (DG c) 2 f2 h2) $$ [Hp St]
  · isplitl [Hp] <;> iassumption
  iintro St
  iapply (step_out_load m ρ c _) $$ Ho; iintro Ho
  iapply (step_out_store m ρ c (mate 2 c) _ (blk_ag m ρ c 2 f2 h2) (off3_eq c 2)) $$ Ho; iintro Ho
  iapply (step_wait_send m ρ K c 2 3 (DG c) 3 (mayWait_last c _) (laneSem2 3) credit_g) $$ [St]
  · isplitr; · iexact Hk
    iexact St
  iintro St
  iapply (step_wait_recv m ρ K c 2 3 (DG c) 3 (mayWait_last c _) (laneSem3 3) (credit_ag 3)) $$ [St]
  · isplitr; · iexact Hk
    iexact St
  iintro ⟨Hp, St⟩
  ihave Hp := (open_ag m ρ c 3) $$ Hp
  icases Hp with ⟨%f3, %h3, Hp⟩
  iapply (step_load_ag m ρ c (DG c) 3 f3 h3) $$ [Hp St]
  · isplitl [Hp] <;> iassumption
  iintro St
  iapply (step_out_load m ρ c _) $$ Ho; iintro Ho
  iapply (step_out_store m ρ c (mate 3 c) _ (blk_ag m ρ c 3 f3 h3) (off3_eq c 3)) $$ Ho; iintro Ho
  iapply HK
  isplitl [St]; · iexact St
  iexact Ho

/-- The rows of lane 4 landed and stored; those of lane 5 landed. -/
theorem part15 (v2 v296 v305 : BitVec 32) (S : Finset (Dev nD)) {α : Type} {Q : α → sProp 𝕄} {k : (FVec F S32x256 .f32) → Prog (TpuEff nD τ sig (Elt F) Λ₀ .tc) α} :
    iprop(known m ρ K ∗ WaitSt m ρ c 2 3 (DG c) 4 ∗ OutSt m ρ c S)
      ⊢ iprop(((WaitSt m ρ c 2 3 (DG c) 6 ∗ OutSt m ρ c (insert (mate 4 c) S)) -∗ wp frame (wpE (defs₀ (F := F)) 𝒱₀ (c : Thread nD τ) none) Set.univ (k (blkVal m ρ c (mate 5 c))) Q)
          -∗ wp frame (wpE (defs₀ (F := F)) 𝒱₀ (c : Thread nD τ) none) Set.univ
            (k0_part15 xM (Memref.isWhole_whole _) (Memref.whole cc0_stg1_0) (Memref.isWhole_whole _) iM (Memref.isWhole_whole _) wM (Memref.isWhole_whole _) oM (Memref.isWhole_whole _) sM (Memref.isWhole_whole _) gM (Memref.isWhole_whole _) rM (Memref.isWhole_whole _) aM (Memref.isWhole_whole _) cc0_scratch4 cc0_scratch5 cc0_scratch6 cc0_scratch7 c v2 v296 v305 >>= k) Q) := by
  rw [k0_part15_eq_skeleton]; unfold k0_part15_skel
  simp only [semSignalWord, semWaitWord, Prog.lift, Prog.bind_op, Prog.bind_ret, Prog.bind_assoc, Prog.pure_eq_ret, wp_deviceId]
  iintro ⟨#Hk, St, Ho⟩ HK
  iapply (step_wait_send m ρ K c 2 3 (DG c) 4 (mayWait_last c _) (laneSem2 4) credit_g) $$ [St]
  · isplitr; · iexact Hk
    iexact St
  iintro St
  iapply (step_wait_recv m ρ K c 2 3 (DG c) 4 (mayWait_last c _) (laneSem3 4) (credit_ag 4)) $$ [St]
  · isplitr; · iexact Hk
    iexact St
  iintro ⟨Hp, St⟩
  ihave Hp := (open_ag m ρ c 4) $$ Hp
  icases Hp with ⟨%f4, %h4, Hp⟩
  iapply (step_load_ag m ρ c (DG c) 4 f4 h4) $$ [Hp St]
  · isplitl [Hp] <;> iassumption
  iintro St
  iapply (step_out_load m ρ c _) $$ Ho; iintro Ho
  iapply (step_out_store m ρ c (mate 4 c) _ (blk_ag m ρ c 4 f4 h4) (off3_eq c 4)) $$ Ho; iintro Ho
  iapply (step_wait_send m ρ K c 2 3 (DG c) 5 (mayWait_last c _) (laneSem2 5) credit_g) $$ [St]
  · isplitr; · iexact Hk
    iexact St
  iintro St
  iapply (step_wait_recv m ρ K c 2 3 (DG c) 5 (mayWait_last c _) (laneSem3 5) (credit_ag 5)) $$ [St]
  · isplitr; · iexact Hk
    iexact St
  iintro ⟨Hp, St⟩
  ihave Hp := (open_ag m ρ c 5) $$ Hp
  icases Hp with ⟨%f5, %h5, Hp⟩
  iapply (step_load_ag m ρ c (DG c) 5 f5 h5) $$ [Hp St]
  · isplitl [Hp] <;> iassumption
  iintro St
  rw [show k0_pay13 ((aM : Memref sig .tc .vmem S7x32x256 .bf16).view.readAt (Elt F) (lane 5).toLoadRect f5) = blkVal m ρ c (mate 5 c) from blk_ag m ρ c 5 f5 h5]
  iapply HK
  isplitl [St]; · iexact St
  iexact Ho

end Cert.KernelIdeal.Moe

end
-- ==== Proof.Body.lean ====
/-
# The body of the kernel on one device, from its launch state to its end state
-/
module

public import proofs.«01_k».proof.Proof.Parts
public import proofs.«01_k».proof.Proof.Gen.KernelIdeal.Launch
public import proofs.«01_k».proof.Proof.Gen.KernelIdeal.Points

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device starts from and ends with -/

/-- Device `c`'s positions at its own semaphores and the rights to perform the duties it performs: a signal and a landing per
    mate and half, and its own send semaphores'. -/
def mine (c : Dev nD) : sProp 𝕄 :=
  iprop(atPos ER (barCell c) 0 ∅ 0 ∗ (bigSep Finset.univ fun x : Fin 4 × Fin 7 => atPos ER (dcell c x) 0 ∅ 0)
    ∗ barToks c ∗ ownToks c 0 ∗ mateToks c 1 ∗ ownToks c 2 ∗ mateToks c 3)

def start (c : Dev nD) : sProp 𝕄 :=
  iprop((∃ K, records m ρ K ∗ mine c) ∗ cred (tallyAt (barCell c) () 7) ∗ credFam c 1 ∗ credFam c 3 ∗ levAts L lv)

/-- The four scratch buffers at some contents. -/
def scratch (c : Dev nD) : sProp 𝕄 := iprop(scr c cc0_scratch0 ∗ scr c cc0_scratch1 ∗ scr c cc0_scratch2 ∗ scr c cc0_scratch3)

def Φ₀ (c : Dev nD) : sProp 𝕄 := iprop(start m ρ c ∗ scratch c)
/-- After the body: the scratch buffers, and every semaphore of the exchange back at zero. -/
def Φ₁ (c : Dev nD) : sProp 𝕄 :=
  iprop(scratch c ∗ (bigSep Finset.univ fun x : Fin 4 × Fin 7 => semVal (dcell c x) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem out_start (c : Dev nD) (f : Buf (Elt F) ((c : Thread nD τ).loc cc0_stg4_0)) :
    ((((c : Thread nD τ).loc cc0_stg4_0) ↦{fullShare} f) : sProp 𝕄) ⊢ OutSt m ρ c ∅ := by
  unfold OutSt
  iintro H
  iexists f
  isplitr; · (ipureintro; exact fun d hd => absurd hd (Finset.notMem_empty d))
  iexact H

/-- The rows written in the end are all rows. -/
theorem rows_all : ∀ c d : Dev nD, d ∈ insert (mate 6 c) (insert (mate 5 c) (insert (mate 4 c) (insert (mate 3 c) (insert (mate 2 c) (insert (mate 1 c) (insert (mate 0 c) (insert c (∅ : Finset (Dev nD)))))))) ) := by
  decide

theorem out_end (c : Dev nD) (S : Finset (Dev nD)) (hS : ∀ d, d ∈ S) : OutSt m ρ c S ⊢ (stg c cc0_stg4_0 (outAt m ρ c) : sProp 𝕄) := by
  unfold OutSt
  iintro ⟨%f, %hf, H⟩
  iexists f
  isplitr; · (ipureintro; exact out_all m ρ c f fun d => hf d (hS d))
  iexact H

def bodyPre (K : Dev nD × CI → ℕ) (c : Dev nD) : sProp 𝕄 :=
  iprop((known m ρ K ∗ mine c ∗ cred (tallyAt (barCell c) () 7) ∗ credFam c 1 ∗ credFam c 3 ∗ scratch c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (xstg m ρ c) ∗ stg c cc0_stg1_0 (rstg m ρ c) ∗ stg c cc0_stg2_0 (istg m ρ c)
    ∗ stg c cc0_stg3_0 (wstg m ρ c) ∗ stg c cc0_stg4_0 (outAt m ρ c))

theorem owing_start (c : Dev nD) : ((dats m ρ 0 c).owesAt () t₀.castSucc : sProp 𝕄) ⊢ owing c (O₀ c) := by
  unfold Dat.owesAt Pipeline.owesWithin owing
  iintro ⟨%W, %hW, HO⟩
  iexists W
  iexact HO
theorem owing_end (c : Dev nD) : (owing c (DG c) : sProp 𝕄) ⊢ (dats m ρ 0 c).owesAt () t₀.succ := by
  rw [show DG c = 0 from debt_none c]
  unfold Dat.owesAt Pipeline.owesWithin owing
  rw [show (dats m ρ 0 c).owed t₀.succ = 0 from rfl]
  iintro ⟨%W, HO⟩
  iexists W
  isplitr; · (ipureintro; exact fun _ _ => Or.inl trivial)
  iexact HO

set_option maxHeartbeats 1600000 in
/-- The body from `bodyPre` to `bodyPost`, part after part. -/
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [cc0_body_eq_skeleton]; unfold cc0_body_skel
  simp only [k0_part16_eq_skeleton]; unfold k0_part16_skel
  simp only [Prog.lift, Prog.bind_op, Prog.bind_ret, Prog.bind_assoc, Prog.pure_eq_ret]
  unfold bodyPre mine scratch
  iintro ⟨⟨⟨#Hk, ⟨HatB, Hat, HtB, Ho0, Hm1, Ho2, Hm3⟩, HcB, Hc1, Hc3, ⟨Hs0, Hs1, Hs2, Hs3⟩⟩,
    HO, ⟨%d0, %g0, %hg0, Hx⟩, ⟨%d1, %g1, %hg1, Hr⟩, ⟨%d2, %g2, %hg2, Hi⟩, ⟨%d3, %g3, %hg3, Hw⟩, ⟨%d4, %g4, %hg4, Hout⟩⟩, HK⟩
  have hx : g0 = xstg m ρ c := by rw [hg0]; unfold Dat.before; rw [if_pos (fetch0_0 t₀)]; rfl
  subst hx
  have hr : g1 = rstg m ρ c := by rw [hg1]; unfold Dat.before; rw [if_pos (fetch0_1 t₀)]; rfl
  subst hr
  have hi : g2 = istg m ρ c := by rw [hg2]; unfold Dat.before; rw [if_pos (fetch0_2 t₀)]; rfl
  subst hi
  have hw : g3 = wstg m ρ c := by rw [hg3]; unfold Dat.before; rw [if_pos (fetch0_3 t₀)]; rfl
  subst hw
  ihave HO := (owing_start m ρ c) $$ HO
  ihave Hat := (Entails.of_eq (bigSep_family fun x => atPos ER (dcell c x) 0 ∅ 0)) $$ Hat
  icases Hat with ⟨Ha0, Ha1, Ha2, Ha3⟩
  ihave Hout := (out_start m ρ c g4) $$ Hout
  ihave St := (sig_start c) $$ [HtB Hs2 Hs3 HO]
  · isplitl [HtB]; · iexact HtB
    isplitl [Hs2]; · iexact Hs2
    isplitl [Hs3] <;> iassumption
  iapply (part1 m ρ K c) $$ [St]
  · isplitr; · iexact Hk
    iexact St
  iintro St
  iapply (part2 m ρ K c _) $$ [St Hx Hi Hw Hs0]
  · isplitr; · iexact Hk
    isplitl [St]; · iexact St
    isplitl [Hx Hi Hw]
    · isplitl [Hx]; · iexact Hx
      isplitl [Hi] <;> iassumption
    iexact Hs0
  iintro ⟨St, ⟨Hx, Hi, Hw⟩, Hs⟩
  iapply (part3 m ρ K c _) $$ [HcB HatB St Ho0 Hm1 Hs]
  · isplitr; · iexact Hk
    isplitl [HcB HatB St]
    · isplitl [HcB]; · iexact HcB
      isplitl [HatB] <;> iassumption
    isplitl [Ho0]; · iexact Ho0
    isplitl [Hm1] <;> iassumption
  iintro ⟨St, Hb, HA, HzB⟩
  iapply (part4 m ρ K c _) $$ [St]
  · isplitr; · iexact Hk
    iexact St
  iintro St
  iapply (part5 m ρ K c _ _) $$ [St Hb Ha0 Hc1 Ha1]
  · isplitr; · iexact Hk
    isplitl [St]; · iexact St
    isplitl [Hb]; · iexact Hb
    isplitl [Ha0]; · iexact Ha0
    isplitl [Hc1] <;> iassumption
  iintro ⟨Hb, St⟩
  iapply (part6 m ρ K c _ _ _ _) $$ [St]
  · isplitr; · iexact Hk
    iexact St
  iintro St
  iapply (part7 m ρ K c _ _ _) $$ [St]
  · isplitr; · iexact Hk
    iexact St
  iintro St
  iapply (part8 m ρ K c _ _) $$ [St]
  · isplitr; · iexact Hk
    iexact St
  iintro St
  iapply (part9 m ρ K c _ _ _ _ _ ∅) $$ [St Hout]
  · isplitr; · iexact Hk
    isplitl [St] <;> iassumption
  iintro ⟨St, Hout⟩
  ihave H := (reduce_end m ρ c (DR c)) $$ [Hb St]
  · isplitl [Hb] <;> iassumption
  icases H with ⟨Hs0, Hs2, Hz0, Hz1, HO⟩
  rw [red_sum m ρ c]
  iapply (part10 m ρ K c _ ∅) $$ [Hout Hs1 HA Ho2 Hm3 HO]
  · isplitr; · iexact Hk
    isplitl [Hout]; · iexact Hout
    isplitl [Hs1]; · iexact Hs1
    isplitl [HA]; · iexact HA
    isplitl [Ho2]; · iexact Ho2
    isplitl [Hm3] <;> iassumption
  iintro ⟨Hout, Hg, St⟩
  iapply (part11 m ρ K c _) $$ [St]
  · isplitr; · iexact Hk
    iexact St
  iintro St
  iapply (part12 m ρ K c _ _ _ _) $$ [St Ha2 Hc3 Ha3 Hout]
  · isplitr; · iexact Hk
    isplitl [St Ha2 Hc3 Ha3]
    · isplitl [St]; · iexact St
      isplitl [Ha2]; · iexact Ha2
      isplitl [Hc3] <;> iassumption
    iexact Hout
  iintro ⟨St, Hout⟩
  iapply (part13 m ρ K c _ _ _ _) $$ [St Hout]
  · isplitr; · iexact Hk
    isplitl [St] <;> iassumption
  iintro St
  iapply (part14 m ρ K c _ _ _) $$ [St]
  · isplitr; · iexact Hk
    iexact St
  iintro ⟨St, Hout⟩
  iapply (part15 m ρ K c _ _ _ _) $$ [St Hout]
  · isplitr; · iexact Hk
    isplitl [St] <;> iassumption
  iintro ⟨St, Hout⟩
  iapply (step_out_load m ρ c _) $$ Hout; iintro Hout
  iapply (step_out_store m ρ c (mate 5 c) _ rfl (off3_eq c 5)) $$ Hout; iintro Hout
  iapply (step_wait_send m ρ K c 2 3 (DG c) 6 (mayWait_last c _) (laneSem2 6) credit_g) $$ [St]
  · isplitr; · iexact Hk
    iexact St
  iintro St
  iapply (step_wait_recv m ρ K c 2 3 (DG c) 6 (mayWait_last c _) (laneSem3 6) (credit_ag 6)) $$ [St]
  · isplitr; · iexact Hk
    iexact St
  iintro ⟨Hp, St⟩
  ihave Hp := (open_ag m ρ c 6) $$ Hp
  icases Hp with ⟨%f, %h, Hp⟩
  iapply (step_load_ag m ρ c (DG c) 6 f h) $$ [Hp St]
  · isplitl [Hp] <;> iassumption
  iintro St
  iapply (step_out_load m ρ c _) $$ Hout; iintro Hout
  iapply (step_out_store m ρ c (mate 6 c) _ (blk_ag m ρ c 6 f h) (off3_eq c 6)) $$ Hout; iintro Hout
  rw [wp_ret]; imodintro
  ihave Hout := (out_end m ρ c _ (rows_all c)) $$ Hout
  ihave H := (collect_end m ρ c (DG c)) $$ [Hg St]
  · isplitl [Hg]; · iexact Hg
    iexact St
  icases H with ⟨Hs1, Hs3, Hz2, Hz3, HO⟩
  ihave HO := (owing_end m ρ c) $$ HO
  iapply HK
  unfold bodyPost Φ₁ scratch
  isplitl [Hs0 Hs1 Hs2 Hs3 Hz0 Hz1 Hz2 Hz3 HzB]
  · isplitl [Hs0 Hs1 Hs2 Hs3]
    · isplitl [Hs0]; · iexact Hs0
      isplitl [Hs1]; · iexact Hs1
      isplitl [Hs2] <;> iassumption
    isplitr [HzB]
    · rw [bigSep_family]
      isplitl [Hz0]; · iexact Hz0
      isplitl [Hz1]; · iexact Hz1
      isplitl [Hz2] <;> iassumption
    iexact HzB
  isplitl [HO]; · iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  unfold bodyPre' Φ₀ start
  iintro ⟨⟨⟨⟨%K, Hrec, Hg⟩, HcB, Hc1, Hc3, Hlev⟩, Hscr⟩, Ho, Hw⟩
  iapply (sound_body m ρ K c fun _ => bodyPost m ρ c)
  unfold bodyPre known
  isplitr []
  · isplitr [Ho Hw]
    · isplitl [Hrec Hlev]
      · isplitl [Hrec] <;> iassumption
      isplitl [Hg]; · iexact Hg
      isplitl [HcB]; · iexact HcB
      isplitl [Hc1]; · iexact Hc1
      isplitl [Hc3] <;> iassumption
    isplitl [Ho] <;> iassumption
  · iintro H; iexact H

end Cert.KernelIdeal.Moe

end
-- ==== Proof.Launch.lean ====
/-
# The launch: the cells opened, the duties dealt, the run of the whole mesh
-/
module

public import proofs.«01_k».proof.Proof.Body
public import Idealize.ShloMosaic.Lib.Pipeline.CollectiveSegs
public import Idealize.ShloMosaic.Lib.StableHlo.RunHlo

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's layout -/

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := fun x y h => by
  rcases x with u | x <;> rcases y with v | y
  · rfl
  · exact absurd h (by simp)
  · exact absurd h (by simp)
  · exact congrArg Sum.inr (dsem_inj (SemLoc.dma.inj h))

theorem kcell_injective : Function.Injective (kcell : Dev nD × CI → GSem nD τ sig) := fun x y h =>
  Prod.ext (congrArg (fun g : GSem nD τ sig => g.1.1) h) (csem_inj (congrArg Prod.snd h))

/-- All cells of the exchange. -/
def moeCells : Finset (GSem nD τ sig) := Finset.univ.map ⟨kcell, kcell_injective⟩

/-- The duties of a device's cells: the barrier's, one per lane; the others', one per cell. -/
abbrev TI : Type := Fin 7 ⊕ (Fin 4 × Fin 7)
abbrev tokOf (ct : Dev nD × TI) : GSem nD τ sig × ℕ × Fin 7 :=
  match ct.2 with | .inl r => (barCell ct.1, 0, r) | .inr x => (dcell ct.1 x, 0, 0)
theorem tokOf_injective : Function.Injective (tokOf : Dev nD × TI → GSem nD τ sig × ℕ × Fin 7) := by
  rintro ⟨c, r | x⟩ ⟨c', r' | x'⟩ h
  · have h1 : c = c' := congrArg (fun t : GSem nD τ sig × ℕ × Fin 7 => t.1.1.1) h
    have h2 : r = r' := congrArg (fun t : GSem nD τ sig × ℕ × Fin 7 => t.2.2) h
    rw [h1, h2]
  · exact absurd (congrArg (fun t : GSem nD τ sig × ℕ × Fin 7 => t.1.2) h) (fun h' => by cases h')
  · exact absurd (congrArg (fun t : GSem nD τ sig × ℕ × Fin 7 => t.1.2) h) (fun h' => by cases h')
  · have h1 : c = c' := congrArg (fun t : GSem nD τ sig × ℕ × Fin 7 => t.1.1.1) h
    have h2 : x = x' := dsem_inj (SemLoc.dma.inj (congrArg (fun t : GSem nD τ sig × ℕ × Fin 7 => t.1.2) h))
    rw [h1, h2]
def moeToks : Finset (GSem nD τ sig × ℕ × Fin 7) := Finset.univ.map ⟨tokOf, tokOf_injective⟩

def u₀ : UU := (initOf (Pipeline.cells cfgs cellOf_inj) (Pipeline.launchToks cfgs cellOf_inj), initOf moeCells moeToks)

/-- The rights to perform the duties of device `c`'s own cells. -/
def toks (c : Dev nD) : sProp 𝕄 :=
  iprop((bigSep Finset.univ fun r : Fin 7 => dutyTok ER (barCell c) 0 r) ∗ ownToks c 0 ∗ ownToks c 1 ∗ ownToks c 2 ∗ ownToks c 3)

/-- What device `c` is dealt at launch, and what it holds once the cells are opened. -/
def G (c : Dev nD) : sProp 𝕄 :=
  iprop((bigSep Finset.univ fun k : CI => roundState ER (moeRd m ρ) (kcell (c, k)) 0)
    ∗ (bigSep Finset.univ fun k : CI => iprop(atPos ER (kcell (c, k)) 0 ∅ 0 ∗ reached ER (kcell (c, k)) 0)) ∗ toks c)
def G' (c : Dev nD) : sProp 𝕄 := iprop(∃ K, records m ρ K ∗ mine c)

theorem bigSep_CI (Φ : CI → sProp 𝕄) : bigSep Finset.univ Φ = iprop(Φ (.inl ()) ∗ bigSep Finset.univ fun x => Φ (.inr x)) := by
  rw [BI.bigSep_univ_sum]
  congr 1
  exact bigSep_univ_eq_bigSepL [()] (by decide) (by decide) _

theorem fund_moe : BI.own (ER (initOf moeCells moeToks)) ⊢ (|==> bigSep Finset.univ (G m ρ) : sProp 𝕄) := by
  have hX (Φ : GSem nD τ sig → sProp 𝕄) : bigSep moeCells Φ = bigSep Finset.univ fun c : Dev nD => bigSep Finset.univ fun k : CI => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]
    exact bigSep_congr fun c _ => by unfold toks; rw [BI.bigSep_univ_sum, bigSep_family]; rfl
  iintro HX
  imod (Rounds.fund ER (moeRd m ρ) moeCells moeToks) $$ HX with ⟨Hst, Hr, Hat, Htok⟩
  imodintro
  ihave Hst' := (Entails.of_eq (hX fun g => roundState ER (moeRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : Fin 4 × Fin 7 => semVal (dcell c x) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨HO, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (moeRd m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (moeRd m ρ) (kcell (c, k)) 0)
      ⊢ (|={Set.univ}=> bigSep Finset.univ fun k : CI => iprop(∃ κ : ℕ, cellInv ER (moeRd m ρ) κ (kcell (c, k))) : sProp 𝕄) from by
        rw [← bigSep_sep']
        exact (bigSep_mono fun k _ => (Rounds.body_intro ER (moeRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The rights a device performs its duties by. -/
def payToks (c : Dev nD) : sProp 𝕄 := iprop(barToks c ∗ ownToks c 0 ∗ mateToks c 1 ∗ ownToks c 2 ∗ mateToks c 3)
def linear (c : Dev nD) : sProp 𝕄 := iprop((bigSep Finset.univ fun k : CI => atPos ER (kcell (c, k)) 0 ∅ 0) ∗ payToks c)

theorem ghost_intro (K : Dev nD × CI → ℕ) (c : Dev nD) : iprop(records m ρ K ∗ linear c) ⊢ G' m ρ c := by
  unfold linear payToks G' mine
  rw [bigSep_CI]
  iintro ⟨#HR, ⟨HaB, Ha⟩, Ht⟩
  iexists K
  isplitr; · iexact HR
  isplitl [HaB]; · iexact HaB
  isplitl [Ha] <;> iassumption

/-- What is held lane by lane, handed to the device at the other end of each lane. -/
theorem dealt (Φ : Dev nD → Fin 7 → sProp 𝕄) :
    (bigSep Finset.univ fun c : Dev nD => bigSep Finset.univ fun r : Fin 7 => Φ c r) = bigSep Finset.univ fun c : Dev nD => bigSep Finset.univ fun r : Fin 7 => Φ (mate r c) r := by
  rw [← bigSep_univ_prod (fun x : Dev nD × Fin 7 => Φ x.1 x.2), bigSep_univ_equiv across, bigSep_univ_prod]
  rfl

theorem toks_dealt : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    dealt (fun c r => (dutyTok ER (barCell c) 0 r : sProp 𝕄)), dealt (fun c r => (dutyTok ER (dcell c (1, r)) 0 0 : sProp 𝕄)),
    dealt (fun c r => (dutyTok ER (dcell c (3, r)) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (moeRd m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (moeRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (moeRd m ρ) κ (kcell ck) : sProp 𝕄))) $$ HI
  icases HK with ⟨%K, #HI⟩
  ihave Htk := (toks_dealt (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- Every device's semaphores opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What all devices together owe each cell -/

theorem mate_eq_iff (r : Fin 7) (c d : Dev nD) : c = mate r d ↔ d = mate r c := by revert r c d; decide
theorem bar_eq_iff {a b : Dev nD} : barCell a = barCell b ↔ a = b :=
  ⟨fun h => congrArg (fun g : GSem nD τ sig => g.1.1) h, fun h => h ▸ rfl⟩
theorem own_eq_iff {a b : Dev nD} {x y : Fin 4 × Fin 7} : dcell a x = dcell b y ↔ a = b ∧ x = y :=
  ⟨fun h => ⟨congrArg (fun g : GSem nD τ sig => g.1.1) h, dsem_inj (SemLoc.dma.inj (congrArg Prod.snd h))⟩, fun h => by rw [h.1, h.2]⟩

theorem debt_at (d : Dev nD) (g : GSem nD τ sig) : O₀ d g () = (∑ r : Fin 7, if g = dcell (mate r d) (3, r) then N else 0)
    + (∑ r : Fin 7, if g = dcell (mate r d) (1, r) then N else 0) + ∑ r : Fin 7, if g = barCell (mate r d) then 1 else 0 := by
  unfold O₀ debt
  rw [geS_zero, Pi.add_apply, Finsupp.add_apply, Pi.add_apply, Finsupp.add_apply, Finset.sum_apply, Finset.sum_apply, Finset.sum_apply,
    Finsupp.finset_sum_apply, Finsupp.finset_sum_apply, Finsupp.finset_sum_apply]
  simp only [tallyAt_apply, and_true]

theorem owed_bar (c d : Dev nD) : O₀ d (barCell c) () = ∑ r : Fin 7, if d = mate r c then 1 else 0 := by
  rw [debt_at, Finset.sum_eq_zero (fun r _ => if_neg (fun h => by cases congrArg Prod.snd h)),
    Finset.sum_eq_zero (fun r _ => if_neg (fun h => by cases congrArg Prod.snd h)), Nat.zero_add, Nat.zero_add]
  exact Finset.sum_congr rfl fun r _ => if_congr (bar_eq_iff.trans (mate_eq_iff r c d)) rfl rfl

theorem owed_rs (c d : Dev nD) (r : Fin 7) : O₀ d (dcell c (1, r)) () = if d = mate r c then N else 0 := by
  rw [debt_at, Finset.sum_eq_zero (fun r' _ => if_neg (fun h => absurd (show (1 : Fin 4) = 3 from congrArg Prod.fst (own_eq_iff.mp h).2) (by decide))),
    Finset.sum_eq_zero (f := fun r' => if dcell c (1, r) = barCell (mate r' d) then 1 else 0) (fun r' _ => if_neg (fun h => by cases congrArg Prod.snd h)), Nat.zero_add, Nat.add_zero,
    Finset.sum_eq_single r (fun r' _ hr => if_neg (fun h => hr (congrArg Prod.snd (own_eq_iff.mp h).2).symm)) (fun h => absurd (Finset.mem_univ r) h)]
  exact if_congr (own_eq_iff.trans ((and_iff_left rfl).trans (mate_eq_iff r c d))) rfl rfl

theorem owed_ag (c d : Dev nD) (r : Fin 7) : O₀ d (dcell c (3, r)) () = if d = mate r c then N else 0 := by
  rw [debt_at, Finset.sum_eq_zero (f := fun r' => if dcell c (3, r) = dcell (mate r' d) (1, r') then N else 0)
      (fun r' _ => if_neg (fun h => absurd (show (3 : Fin 4) = 1 from congrArg Prod.fst (own_eq_iff.mp h).2) (by decide))),
    Finset.sum_eq_zero (f := fun r' => if dcell c (3, r) = barCell (mate r' d) then 1 else 0) (fun r' _ => if_neg (fun h => by cases congrArg Prod.snd h)), Nat.add_zero, Nat.add_zero,
    Finset.sum_eq_single r (fun r' _ hr => if_neg (fun h => hr (congrArg Prod.snd (own_eq_iff.mp h).2).symm)) (fun h => absurd (Finset.mem_univ r) h)]
  exact if_congr (own_eq_iff.trans ((and_iff_left rfl).trans (mate_eq_iff r c d))) rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm,
    Finset.sum_congr rfl fun (r : Fin 7) _ => Finset.sum_ite_eq' Finset.univ (mate r c) fun _ => 1]
  simp
theorem launch_rs (c : Dev nD) (r : Fin 7) :
    tallyOn (dcell c (1, r)) (launchCredit (Pipeline.owing O₀) 0 (dcell c (1, r))) = (tallyAt (dcell c (1, r)) () N : CellTallies nD τ sig Unit) := by
  unfold tallyAt; refine congrArg _ (Finsupp.ext fun u => ?_); cases u
  rw [Pipeline.launchCredit_owing, Finsupp.single_eq_same, Finset.sum_congr rfl fun d _ => owed_rs c d r,
    Finset.sum_ite_eq' Finset.univ (mate r c) fun _ => N, if_pos (Finset.mem_univ _)]
theorem launch_ag (c : Dev nD) (r : Fin 7) :
    tallyOn (dcell c (3, r)) (launchCredit (Pipeline.owing O₀) 0 (dcell c (3, r))) = (tallyAt (dcell c (3, r)) () N : CellTallies nD τ sig Unit) := by
  unfold tallyAt; refine congrArg _ (Finsupp.ext fun u => ?_); cases u
  rw [Pipeline.launchCredit_owing, Finsupp.single_eq_same, Finset.sum_congr rfl fun d _ => owed_ag c d r,
    Finset.sum_ite_eq' Finset.univ (mate r c) fun _ => N, if_pos (Finset.mem_univ _)]

/-- The promise of a cell at launch. -/
abbrev promise (c : Dev nD) (sm : SemLoc sig) : sProp 𝕄 :=
  cred (tallyOn ((c.tc : Thread nD τ), sm) (launchCredit (Pipeline.owing O₀) 0 ((c.tc : Thread nD τ), sm)))

theorem promises (c : Dev nD) : (Pipeline.launchCred O₀ c : sProp 𝕄)
    ⊢ iprop(promise c (.reg barS) ∗ (bigSep Finset.univ fun r : Fin 7 => promise c (osem (0, r))) ∗ (bigSep Finset.univ fun r : Fin 7 => promise c (osem (1, r)))
      ∗ (bigSep Finset.univ fun r : Fin 7 => promise c (osem (2, r))) ∗ (bigSep Finset.univ fun r : Fin 7 => promise c (osem (3, r)))) := by
  have h1 := BI.bigSep_subset (Finset.subset_univ (Finset.univ.map (⟨csem, csem_inj⟩ : CI ↪ SemLoc sig))) (Φ := fun sm : SemLoc sig => (promise c sm : sProp 𝕄))
  rw [bigSep_map, bigSep_CI, bigSep_family] at h1
  exact h1

/-- The promises a device starts from: seven signals at its barrier, a block at each receive semaphore. -/
theorem creds (c : Dev nD) :
    (Pipeline.launchCred O₀ c : sProp 𝕄) ⊢ iprop(cred (tallyAt (barCell c) () 7) ∗ credFam c 1 ∗ credFam c 3) := by
  unfold credFam
  rw [← launch_bar c, ← bigSep_congr (s := Finset.univ) (fun (r : Fin 7) _ => congrArg (fun t : CellTallies nD τ sig Unit => (cred t : sProp 𝕄)) (launch_rs c r)),
    ← bigSep_congr (s := Finset.univ) (fun (r : Fin 7) _ => congrArg (fun t : CellTallies nD τ sig Unit => (cred t : sProp 𝕄)) (launch_ag c r))]
  iintro H
  ihave H := (promises c) $$ H
  icases H with ⟨H1, -, H2, -, H3⟩
  isplitl [H1]; · iexact H1
  isplitl [H2]; · iexact H2
  iexact H3

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters and for any float values, every execution terminates without a fault; in every final
    state each array of the launch holds what the data says and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_moe m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_in0 (c : Dev nD) : finalA m ρ c (0 : Fin 5) = m ((c : Thread nD τ).loc main_arg0) := (dats (F := F) m ρ 0 c).arrAt_in (0 : Fin 5) rfl _
theorem finalA_in1 (c : Dev nD) : finalA m ρ c (1 : Fin 5) = m ((c : Thread nD τ).loc main_arg1) := (dats (F := F) m ρ 0 c).arrAt_in (1 : Fin 5) rfl _
theorem finalA_in2 (c : Dev nD) : finalA m ρ c (2 : Fin 5) = m ((c : Thread nD τ).loc main_arg2) := (dats (F := F) m ρ 0 c).arrAt_in (2 : Fin 5) rfl _
theorem finalA_in3 (c : Dev nD) : finalA m ρ c (3 : Fin 5) = m ((c : Thread nD τ).loc main_arg3) := (dats (F := F) m ρ 0 c).arrAt_in (3 : Fin 5) rfl _

/-- Every execution ends with the arguments as they were, each device's result at `finalA` and every counter at zero. -/
theorem run_args : θ_run defs (onTc (τ := τ) (main (F := F))) (s₀ m ρ) (fun r =>
    (∀ c : Dev nD, r.2.mem ((c : Thread nD τ).loc main_v1) = finalA m ρ c (4 : Fin 5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  θ_run_mono (run_main m ρ) (fun r h => ⟨fun c => ⟨h.1 c (4 : Fin 5), (h.1 c (0 : Fin 5)).trans (finalA_in0 m ρ c), (h.1 c (1 : Fin 5)).trans (finalA_in1 m ρ c),
    (h.1 c (2 : Fin 5)).trans (finalA_in2 m ρ c), (h.1 c (3 : Fin 5)).trans (finalA_in3 m ρ c)⟩, h.2⟩)

end Cert.KernelIdeal.Moe

end
-- ==== Proof.Ideal.lean ====
/-
# What each device computes, over the reals

Each array that the launch stages is the whole argument, and each device's result is the sum over all experts of what the
expert contributes: a row is multiplied by the matrix of its own expert and contributes nothing elsewhere.
-/
module

public import proofs.«01_k».proof.Proof.Launch
public import Idealize.ShloMosaic.Lib.Pipeline.ValueKit
public import Idealize.ShloMosaic.Lib.Pointwise

@[expose] public section

noncomputable section

namespace Cert.KernelIdeal.Moe

open Cert.KernelIdeal Cert.KernelIdeal.Gen

open Idealize.ShloMosaic
open Idealize.ShloMosaic.TcCoe
open Idealize.SL.Sem
open Idealize.ShloMosaic.Pipeline (Dat Cfg Window)

section Generic

variable {F : FTy → Type} [FloatOps F]
variable (m : (ℓ : Loc nD τ sig) → Buf (Elt F) ℓ) (ρ : Dev nD → PrngReg)

/-- The launch's one point writes the whole result back, so the result is what the body leaves. -/
theorem finalA_out (c : Dev nD) : finalA m ρ c (4 : Fin 5) = outAt m ρ c := by
  unfold finalA
  refine (dats m ρ 0 c).arrAt_eq_of_after_last (4 : Fin 5) t0_0 (by decide +kernel) _ fun j => ?_
  blk_simp
  rfl

/-- Every window's block index at the launch's one point. -/
theorem idx : win0_0.index (0 : Fin 1) = ![0, 0] ∧ win0_2.index (0 : Fin 1) = ![0, 0] ∧ win0_3.index (0 : Fin 1) = ![0, 0, 0] := by
  decide +kernel

/-- What is staged is the whole argument: the tokens, -/
theorem xstg_eq (c : Dev nD) : xstg m ρ c = m ((c : Thread nD τ).loc main_arg0) := by
  blk_ext! [xstg, s₀, idx]
/-- the experts' numbers -/
theorem istg_eq (c : Dev nD) : istg m ρ c = m ((c : Thread nD τ).loc main_arg2) := by
  blk_ext! [istg, s₀, idx]
/-- and the two matrices. -/
theorem wstg_eq (c : Dev nD) : wstg m ρ c = m ((c : Thread nD τ).loc main_arg3) := by
  blk_ext! [wstg, s₀, idx]

end Generic

/-- What an expert numbered by the word `n` contributes to entry (i, h): the row's product where the row is its own. -/
def part (n : BitVec 32) (I : S256x1.Idx → BitVec 32) (X : S256x128.Idx → EReal) (A : Fin 128 → Fin 256 → EReal) (i h : Fin 256) : EReal :=
  if I (ix2 i 0) = n then ∑ k : Fin 128, X (ix2 i k) * A k h else 0

theorem sum_select (n : BitVec 32) (I : S256x1.Idx → BitVec 32) (X : S256x128.Idx → EReal) (A : Fin 128 → Fin 256 → EReal) (i h : Fin 256) :
    (∑ k : Fin 128, Scalar.select (IntOp.cmpi CmpIPredicate.eq (I (ix2 i 0)) n) (X (ix2 i k) * A k h) 0) = part n I X A i h := by
  unfold part
  by_cases e : I (ix2 i 0) = n
  · simp [e, IntOp.cmpi, Scalar.select]
  · have h : (I (ix2 i 0) == n) = false := beq_eq_false_iff_ne.mpr e
    simp [e, h, IntOp.cmpi, Scalar.select]

/-- The kernel's two masked products at an entry. -/
theorem pay1_apply (v : BitVec 32) (I : Vec Ideal S256x1 .i32) (X : Vec Ideal S256x128 .bf16) (A B : Vec Ideal S1x128x256 .bf16) (i h : Fin 256) :
    k0_pay1 (F := Ideal) v I X A B (ix2 i h)
      = part (v * 2#32 + 0#32) I X (fun k h => A (ix3 0 k h)) i h + part (v * 2#32 + 1#32) I X (fun k h => B (ix3 0 k h)) i h := by
  rw [← sum_select, ← sum_select]
  pointwise [k0_pay1]
  rfl

variable (m : (ℓ : Loc nD τ sig) → Buf (Elt Ideal) ℓ) (ρ : Dev nD → PrngReg)

/-- Expert `j` of the pair that device `e` holds. -/
def own (e : Dev nD) (j : Fin 2) : Fin 128 → Fin 256 → EReal := fun k h => m ((e : Thread nD τ).loc main_arg3) (ix3 j k h)

theorem myWord_eq : ∀ e : Dev nD, myWord e = BitVec.ofNat 32 e.val := by decide

theorem expert0_apply (W : (cc0_stg3_0 : Ref sig .tc).ty.Contents (Elt Ideal)) (k : Fin 128) (h : Fin 256) :
    expert0 (F := Ideal) W (ix3 0 k h) = W (ix3 0 k h) := by
  refine congrArg W (funext fun a => Fin.ext ?_)
  match a with
  | 0 => rfl
  | 1 => show 0 + 1 * k.val = k.val; omega
  | 2 => show 0 + 1 * h.val = h.val; omega

theorem expert1_apply (W : (cc0_stg3_0 : Ref sig .tc).ty.Contents (Elt Ideal)) (k : Fin 128) (h : Fin 256) :
    expert1 (F := Ideal) W (ix3 0 k h) = W (ix3 1 k h) := by
  refine congrArg W (funext fun a => Fin.ext ?_)
  match a with
  | 0 => rfl
  | 1 => show 0 + 1 * k.val = k.val; omega
  | 2 => show 0 + 1 * h.val = h.val; omega

/-- What device `e` contributes to entry (i, h). -/
def contrib (e : Dev nD) (i h : Fin 256) : EReal :=
  part (BitVec.ofNat 32 (2 * e.val)) (m ((e : Thread nD τ).loc main_arg2)) (m ((e : Thread nD τ).loc main_arg0)) (own m e 0) i h
    + part (BitVec.ofNat 32 (2 * e.val + 1)) (m ((e : Thread nD τ).loc main_arg2)) (m ((e : Thread nD τ).loc main_arg0)) (own m e 1) i h

theorem partialC_apply (e : Dev nD) (i h : Fin 256) : partialC (F := Ideal) m ρ e (ix2 i h) = contrib m e i h := by
  unfold partialC contrib
  rw [pay1_apply, istg_eq, xstg_eq, wstg_eq]
  have h0 : myWord e * 2#32 + 0#32 = BitVec.ofNat 32 (2 * e.val) := by revert e; decide
  have h1 : myWord e * 2#32 + 1#32 = BitVec.ofNat 32 (2 * e.val + 1) := by revert e; decide
  rw [h0, h1]
  simp only [expert0_apply, expert1_apply]
  rfl

/-- Row `y` of device `d`'s rows. -/
def rowAt (d : Dev nD) (y : Fin 32) : Fin 256 := ⟨32 * d.val + y.val, by have : d.val < 8 := d.isLt; omega⟩

theorem rsVal_apply (e d : Dev nD) (y : Fin 32) (h : Fin 256) :
    rsVal (F := Ideal) m ρ e d (ix2 y h) = contrib m e (rowAt d y) h := by
  rw [← partialC_apply m ρ]
  refine congrArg (partialC (F := Ideal) m ρ e) (funext fun a => Fin.ext ?_)
  match a with
  | 0 => show 32 * d.val + 1 * y.val = 32 * d.val + y.val; omega
  | 1 => show 0 + 1 * h.val = h.val; omega

/-- Blocks added one after the other: at an entry, the sum of the entries. -/
theorem foldl_addBlk {ι : Type} (g : ι → FVec Ideal S32x256 .bf16) (y : S32x256.Idx) :
    ∀ (l : List ι) (a : FVec Ideal S32x256 .f32),
      (l.foldl (fun acc r => addBlk acc (g r)) a y : EReal) = a y + (l.map fun r => (g r y : EReal)).sum
  | [], a => (add_zero _).symm
  | r :: l, a => by
    rw [List.foldl_cons, foldl_addBlk g y l, List.map_cons, List.sum_cons, ← add_assoc]
    rfl

/-- A sum over the devices, seen from one: its own term and those of its mates. -/
theorem sum_mates (d : Dev nD) (f : Dev nD → EReal) : ∑ e : Dev nD, f e = f d + ∑ r : Fin 7, f (mate r d) := by
  rw [univ_mates d, Finset.sum_insert, Finset.sum_image]
  · exact fun r _ r' _ h => mate_inj_lane r r' d h
  · intro h
    obtain ⟨r, -, e⟩ := Finset.mem_image.mp h
    exact mate_ne r d e

/-- Device `d`'s rows summed over all devices. -/
theorem redC_apply (d : Dev nD) (y : Fin 32) (h : Fin 256) :
    redC (F := Ideal) m ρ d (ix2 y h) = ∑ e : Dev nD, contrib m e (rowAt d y) h := by
  unfold redC
  refine (foldl_addBlk _ _ _ _).trans ?_
  rw [sum_mates d, Fin.sum_univ_def]
  simp only [rsVal_apply]
  exact congrArg (· + _) (rsVal_apply m ρ d d y h)

/-- What a device writes to a block of its result is the sum over all devices, whichever device computed it. -/
theorem blkVal_eq (c d : Dev nD) : blkVal (F := Ideal) m ρ c d = redC (F := Ideal) m ρ d := by
  unfold blkVal
  split
  · rename_i h; rw [h]
  · funext y
    unfold agVal
    pointwise [k0_pay7]

theorem rowAt_row (i h : Fin 256) : rowAt (rowDev (ix2 i h)) ⟨i.val % 32, Nat.mod_lt _ (by decide)⟩ = i :=
  Fin.ext (Nat.div_add_mod i.val 32)

theorem rowLoc_eq (i h : Fin 256) : rowLoc (ix2 i h) = ix2 ⟨i.val % 32, Nat.mod_lt _ (by decide)⟩ h := by
  funext a
  match a with
  | 0 => rfl
  | 1 => rfl

/-- Every device's result, entry by entry. -/
theorem outAt_apply (c : Dev nD) (i h : Fin 256) : outAt (F := Ideal) m ρ c (ix2 i h) = ∑ e : Dev nD, contrib m e i h := by
  unfold outAt
  rw [blkVal_eq, rowLoc_eq, redC_apply, rowAt_row]

end Cert.KernelIdeal.Moe

end
-- ==== Proof.Value.lean ====
/-
# The reference's value, and that every device's result is it

The reference reads each token's expert's matrix out of all sixteen (a row of zeros where the number is none of them) and
multiplies the token by it.
-/
module

public import proofs.«01_k».proof.Proof.Ideal
public import proofs.«01_k».proof.Proof.Gen.ReferenceIdeal.Run
public import Idealize.ShloMosaic.Lib.ReduceAll

@[expose] public section

noncomputable section

namespace Cert.ReferenceIdeal.Moe

open Cert.ReferenceIdeal Cert.ReferenceIdeal.Gen

open Idealize.ShloMosaic
open Idealize.ShloMosaic.TcCoe
open Idealize.SL.Sem

/-- The reference's result as a term of its three arguments. -/
def term (X : FVec Ideal S256x128 .bf16) (I : IVec S256x1 32) (W : FVec Ideal S16x128x256 .bf16) : FVec Ideal S256x256 .f32 :=
  Host.dotGeneral dot_S256x128_S256x128x256_S256x256_1_1_n_2_0_0 none (extf .f32 X bitsLt_bf16_f32)
    (extf .f32 (select
      (broadcastInDim S256x128x256 ![0] bcast_S256_S256x128x256_0
        (Host.reduce IntOp.andi
          (andi (cmpi .sge (broadcastInDim S256x1 ![0] bcast_S256_S256x1_0 (shapeCast _ I shapeCasts_S256x1_S256))
              (broadcastInDim S256x1 ![] bcast_S_S256x1 (constantI S_ 32 0#32)))
            (cmpi .sle (broadcastInDim S256x1 ![0] bcast_S256_S256x1_0 (shapeCast _ I shapeCasts_S256x1_S256))
              (broadcastInDim S256x1 ![0, 1] bcast_S1x1_S256x1_0_1 (broadcastInDim S1x1 ![1] bcast_S1_S1x1_1 (constantI S1 32 15#32)))))
          (constantI S_ 1 1#1) reducesTo_S256x1_S256_d1 h_S_))
      (Host.gather gather_S16x128x256_S256x1_S256x128x256_12_0_n_n_0_1_1128256 W
        (broadcastInDim S256x1 ![0] bcast_S256_S256x1_0 (shapeCast _ I shapeCasts_S256x1_S256)))
      (broadcastInDim S256x128x256 ![] bcast_S_S256x128x256 (constant S_ .bf16 0x0000#16))) bitsLt_bf16_f32)

/-- The matrix that the reference reads for token `i`: the one of its number, read signed and held between 0 and 15. -/
theorem gather_apply (W : FVec Ideal S16x128x256 .bf16) (J : IVec S256x1 32) (i : Fin 256) (k : Fin 128) (h : Fin 256) :
    Host.gather gather_S16x128x256_S256x1_S256x128x256_12_0_n_n_0_1_1128256 W J (ix3 i k h)
      = W (ix3 ⟨min (J (ix2 i 0)).toInt.toNat 15, by omega⟩ k h) := by
  let d := gather_S16x128x256_S256x1_S256x128x256_12_0_n_n_0_1_1128256
  unfold Host.gather
  refine congrArg W (funext fun a => Fin.ext ?_)
  show d.start (ix3 i k h) J a + d.batchCoord (ix3 i k h) a + d.offCoord (ix3 i k h) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ d.startIndexMap from List.mem_singleton.mpr rfl)]
    have hsi : d.siIdx (ix3 i k h) ⟨List.idxOf (0 : Fin 3) d.startIndexMap, List.idxOf_lt_length_iff.2 (List.mem_singleton.mpr rfl)⟩ = ix2 i 0 := by
      funext b
      match b with
      | 0 => rfl
      | 1 => rfl
    rw [hsi]
    rfl
  | 1 =>
    unfold GatherDims.start
    rw [dif_neg (show ¬(1 : Fin 3) ∈ d.startIndexMap by decide), Nat.zero_add]
    rfl
  | 2 =>
    unfold GatherDims.start
    rw [dif_neg (show ¬(2 : Fin 3) ∈ d.startIndexMap by decide), Nat.zero_add]
    rfl

/-- A word is one of 0, …, 15, read signed, exactly when it is below 16. -/
theorem in_range (n : BitVec 32) :
    IntOp.andi (IntOp.cmpi CmpIPredicate.sge n 0#32) (IntOp.cmpi CmpIPredicate.sle n 15#32) = 1#1 ↔ n.toNat < 16 := by
  rw [IntOp.andi_eq_one, IntOp.cmpi_sge, IntOp.cmpi_sle, show (0#32 : BitVec 32).toInt = 0 from by decide,
    show (15#32 : BitVec 32).toInt = 15 from by decide, BitVec.toInt_eq_toNat_cond]
  have := n.isLt
  split <;> omega

/-- A word below 16 is the same number read signed. -/
theorem toInt_small (n : BitVec 32) (h : n.toNat < 16) : min n.toInt.toNat 15 = min n.toNat 15 := by
  rw [BitVec.toInt_eq_toNat_cond]
  split <;> omega

/-- The product of token `i` with the matrix numbered `a`. -/
def prod (X : S256x128.Idx → EReal) (W : S16x128x256.Idx → EReal) (i h : Fin 256) (a : ℕ) : EReal :=
  ∑ k : Fin 128, X (ix2 i k) * W (ix3 ⟨min a 15, by omega⟩ k h)

/-- The reference's result at an entry. -/
theorem term_apply (X : FVec Ideal S256x128 .bf16) (I : IVec S256x1 32) (W : FVec Ideal S16x128x256 .bf16) (i h : Fin 256) :
    term X I W (ix2 i h) = if (I (ix2 i 0)).toNat < 16 then prod X W i h (I (ix2 i 0)).toNat else 0 := by
  pointwise [term]
  simp only [gather_apply]
  have hfold : ∀ f : Fin 1 → BitVec 1, Finset.fold IntOp.andi (1#1) f Finset.univ = f 0 := by
    intro f
    rw [Finset.univ_unique, Finset.fold_singleton]
    show IntOp.andi (f 0) 1#1 = f 0
    generalize f 0 = b
    revert b; decide
  simp only [hfold]
  by_cases hn : (I (ix2 i 0)).toNat < 16
  · rw [if_pos hn, (in_range _).mpr hn]
    unfold prod
    refine Finset.sum_congr rfl fun k _ => ?_
    have hb : broadcastInDim S256x1 ![0] bcast_S256_S256x1_0 (shapeCast S256 I shapeCasts_S256x1_S256) (ix2 i 0)
        = I (ix2 i 0) := by
      pointwise
    simp only [hb, toInt_small _ hn]
    rfl
  · rw [if_neg hn]
    refine Finset.sum_eq_zero fun k _ => ?_
    rw [(BitVec.eq_zero_or_eq_one _).resolve_right fun e => hn ((in_range _).mp e)]
    rfl

/-- Over the eight devices the two experts of each: at most the one of the token's number counts. -/
theorem sum_pairs (N : ℕ) (g : ℕ → EReal) :
    (∑ e : Fin 8, ((if N = 2 * e.val then g (2 * e.val) else 0) + (if N = 2 * e.val + 1 then g (2 * e.val + 1) else 0)))
      = if N < 16 then g N else 0 := by
  rw [Fin.sum_univ_eight]
  by_cases h : N < 16
  · rw [if_pos h]
    interval_cases N <;> simp
  · rw [if_neg h]
    have hne : ∀ a, a < 16 → N ≠ a := fun a ha e => h (e ▸ ha)
    simp [hne]

/-! ## The two programs' results -/

/-- The reference's result, of its memory at launch. -/
def result (m' : (ℓ : Loc nD τ sig) → Buf (Elt Ideal) ℓ) : Buf (Elt Ideal) (((0 : Dev nD).tc : Thread nD τ).loc main_v15) :=
  term (m' (((0 : Dev nD).tc : Thread nD τ).loc main_arg0)) (m' (((0 : Dev nD).tc : Thread nD τ).loc main_arg2))
    (m' (((0 : Dev nD).tc : Thread nD τ).loc main_arg3))

open Cert.KernelIdeal.Moe (part own contrib finalA finalA_out outAt_apply) in
/-- If the devices hold the tokens and the numbers whole and the matrices cut in eight, each device's result is the reference's. -/
theorem final_eq (m : (ℓ : Loc Cert.KernelIdeal.nD Cert.KernelIdeal.τ Cert.KernelIdeal.sig) → Buf (Elt Ideal) ℓ)
    (g : Dev Cert.KernelIdeal.nD → PrngReg) (m' : (ℓ : Loc nD τ sig) → Buf (Elt Ideal) ℓ)
    (h0 : ∀ c : Dev Cert.KernelIdeal.nD, m ((c.tc : Thread Cert.KernelIdeal.nD Cert.KernelIdeal.τ).loc Cert.KernelIdeal.main_arg0)
      = m' (((0 : Dev nD).tc : Thread nD τ).loc main_arg0))
    (h2 : ∀ c : Dev Cert.KernelIdeal.nD, m ((c.tc : Thread Cert.KernelIdeal.nD Cert.KernelIdeal.τ).loc Cert.KernelIdeal.main_arg2)
      = m' (((0 : Dev nD).tc : Thread nD τ).loc main_arg2))
    (h3 : ∀ c : Dev Cert.KernelIdeal.nD, m ((c.tc : Thread Cert.KernelIdeal.nD Cert.KernelIdeal.τ).loc Cert.KernelIdeal.main_arg3)
      = Layout.block ⟨3, ![2, 128, 256]⟩ ⟨3, ![16, 128, 256]⟩ 0 8 c (m' (((0 : Dev nD).tc : Thread nD τ).loc main_arg3)))
    (c : Dev Cert.KernelIdeal.nD) : finalA (F := Ideal) m g c (4 : Fin 5) = result m' := by
  have key : ∀ i h : Fin 256, Cert.KernelIdeal.Moe.outAt (F := Ideal) m g c (ix2 i h) = result m' (ix2 i h) := by
    intro i h
    suffices hs : (∑ e : Fin 8, contrib m e i h : EReal)
        = if (m' (((0 : Dev nD).tc : Thread nD τ).loc main_arg2) (ix2 i (0 : Fin 1)) : BitVec 32).toNat < 16 then
            prod (m' (((0 : Dev nD).tc : Thread nD τ).loc main_arg0)) (m' (((0 : Dev nD).tc : Thread nD τ).loc main_arg3)) i h
              (m' (((0 : Dev nD).tc : Thread nD τ).loc main_arg2) (ix2 i (0 : Fin 1)) : BitVec 32).toNat
          else 0 by
      exact (outAt_apply m g c i h).trans (hs.trans (term_apply _ _ _ i h).symm)
    refine Eq.trans ?_ (sum_pairs _ (prod (m' (((0 : Dev nD).tc : Thread nD τ).loc main_arg0))
      (m' (((0 : Dev nD).tc : Thread nD τ).loc main_arg3)) i h))
    refine Finset.sum_congr rfl fun e _ => ?_
    have he : e.val < 8 := e.isLt
    have hown : ∀ (j : Fin 2) (k : Fin 128), own m e j k h
        = m' (((0 : Dev nD).tc : Thread nD τ).loc main_arg3) (ix3 ⟨min (2 * e.val + j.val) 15, by omega⟩ k h) := by
      intro j k
      unfold own
      rw [h3 e]
      refine congrArg (m' (((0 : Dev nD).tc : Thread nD τ).loc main_arg3)) (funext fun a => Fin.ext ?_)
      match a with
      | 0 => show e.val * 2 + j.val = min (2 * e.val + j.val) 15; omega
      | 1 => rfl
      | 2 => rfl
    have hword : ∀ (n : BitVec 32) (a : ℕ), a < 16 → (n = BitVec.ofNat 32 a ↔ n.toNat = a) := by
      intro n a ha
      constructor
      · rintro rfl; exact Nat.mod_eq_of_lt (by omega)
      · rintro rfl; exact BitVec.eq_of_toNat_eq (Nat.mod_eq_of_lt n.isLt).symm
    unfold contrib part prod
    rw [h0 e, h2 e]
    simp only [hown, hword _ _ (show 2 * e.val < 16 by omega), hword _ _ (show 2 * e.val + 1 < 16 by omega)]
    rfl
  rw [finalA_out]
  funext x
  obtain ⟨i, h, rfl⟩ : ∃ (i : Fin 256) (h : Fin 256), x = ix2 i h := ⟨x 0, x 1, eq_ix2 x⟩
  exact key i h

end Cert.ReferenceIdeal.Moe

end
-- ==== Proof.lean ====
/-
# The claims, put together

The frames of the two kernel programs are the runs of `Launch` and `PrintedLaunch` with the results dropped; the frame of
the reference is its own run, whose program has no semaphore;
the value claim is `Value`.
-/
module

public import proofs.«01_k».proof.Defs
public import proofs.«01_k».proof.Proof.Launch
public import proofs.«01_k».proof.Proof.PrintedLaunch
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed: from any memory it ends without a fault, arguments unchanged, counters at zero. -/
theorem frame_printed : Cert.quiescent_Kernel := fun m g _ =>
  θ_run_mono (Cert.Kernel.Moe.run_args (F := Bits) m g) fun _ h => ⟨fun c => (h.1 c).2, h.2⟩

/-- The same of the kernel read over the reals. -/
theorem frame_ideal : Cert.quiescent_KernelIdeal := fun m g _ =>
  θ_run_mono (Cert.KernelIdeal.Moe.run_args (F := Ideal) m g) fun _ h => ⟨fun c => (h.1 c).2, h.2⟩

/-- The reference ends with its arguments unchanged. -/
theorem frame_reference : Cert.quiescent_ReferenceIdeal := fun m g _ =>
  θ_run_mono (Cert.ReferenceIdeal.Value.run (F := Ideal) m g) fun r h =>
    ⟨fun c => (h c).2, sem_eq_zero_of_no_sems (by decide) r.2⟩

/-- Over the reals every device ends with the result that the reference computes on one device. -/
theorem algebraic : Cert.algebraic_KernelIdeal_ReferenceIdeal := fun m g m' g' _ h =>
  ⟨Cert.ReferenceIdeal.Moe.result m',
    θ_run_mono (Cert.KernelIdeal.Moe.run_args (F := Ideal) m g) fun _ hr c =>
      ⟨(hr.1 c).1.trans (Cert.ReferenceIdeal.Moe.final_eq m g m' (fun c => (h c).1) (fun c => (h c).2.2.1) (fun c => (h c).2.2.2) c), (hr.1 c).2⟩,
    θ_run_mono (Cert.ReferenceIdeal.Value.run (F := Ideal) m' g') fun _ hr => hr 0⟩

/-- All five claims. -/
theorem claim : Cert.Claim := ⟨Cert.Kernel.Gen.facts, Cert.KernelIdeal.Gen.facts, Cert.ReferenceIdeal.Gen.facts,
  frame_printed, frame_ideal, frame_reference, trivial, algebraic⟩

end Cert.Proof

end
